-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "per_prior" .f32 0x37C00C01#32 ((43680⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v381) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x5460x4 : Shape := ⟨3, ![8, 5460, 4]⟩
abbrev S8x5460x21 : Shape := ⟨3, ![8, 5460, 21]⟩
abbrev S8x8x4 : Shape := ⟨3, ![8, 8, 4]⟩
abbrev S8x8 : Shape := ⟨2, ![8, 8]⟩
abbrev S5460x4 : Shape := ⟨2, ![5460, 4]⟩
abbrev S5460x2 : Shape := ⟨2, ![5460, 2]⟩
abbrev S_ : Shape := ⟨0, ![]⟩

class Facts : Prop where
  slices_S5460x4_S5460x2_0_0 : S5460x4.Slices ![0, 0] S5460x2
  bcast_S_S5460x2 : S_.BroadcastsInDim S5460x2 (![] : Fin 0 → Fin S5460x2.rank)
  reducesTo_S5460x2_S_d0_1 : S5460x2.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_

variable [Facts]

def fn {F : FTy → Type} [FloatOps F] (main_arg0 : FVec F S8x5460x4 .f32) (main_arg1 : FVec F S8x5460x21 .f32) (main_arg2 : FVec F S8x8x4 .f32) (main_arg3 : IVec S8x8 32) (main_arg4 : FVec F S5460x4 .f32) : IVec S_ 1 :=
  let main_v0 : FVec F S5460x2 .f32 := (extractStridedSlice S5460x2 ![0, 0] · slices_S5460x4_S5460x2_0_0) main_arg4
  let main_v1 : FVec F S5460x2 .f32 := Host.absf main_v0
  let main_cst : FVec F S_ .f32 := constant S_ .f32 0x7F800000#32
  let main_v2 : FVec F S5460x2 .f32 := broadcastInDim S5460x2 ![] bcast_S_S5460x2 main_cst
  let main_v3 : IVec S5460x2 1 := cmpf .olt main_v1 main_v2
  let main_c : IVec S_ 1 := constantI S_ 1 1#1
  let main_v4 : IVec S_ 1 := (fun x v => Host.reduce IntOp.andi x v reducesTo_S5460x2_S_d0_1 h_S_) main_v3 main_c
  let main_c_0 : IVec S_ 32 := constantI S_ 32 0#32
  let main_v5 : IVec S8x8 32 := broadcastInDim S8x8 ![] bcast_S_S8x8 main_c_0
  let main_v6 : IVec S8x8 1 := cmpi .sge main_arg3 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v4 main_v7
  let main_c_2 : IVec S_ 32 := constantI S_ 32 32#32
  let main_v9 : IVec S8x8 32 := broadcastInDim S8x8 ![] bcast_S_S8x8 main_c_2
  let main_v10 : IVec S8x8 1 := cmpi .slt main_arg3 main_v9
  let main_c_3 : IVec S_ 1 := constantI S_ 1 1#1
  let main_v11 : IVec S_ 1 := (fun x v => Host.reduce IntOp.andi x v reducesTo_S8x8_S_d0_1 h_S_) main_v10 main_c_3
  let main_v12 : IVec S_ 1 := andi main_v8 main_v11
  main_v12
-- ==== Kernel.lean ====
abbrev S8x5460x4 : Shape := ⟨3, ![8, 5460, 4]⟩
abbrev S8x5460x21 : Shape := ⟨3, ![8, 5460, 21]⟩
abbrev S8x8x4 : Shape := ⟨3, ![8, 8, 4]⟩
abbrev S8x8 : Shape := ⟨2, ![8, 8]⟩
abbrev S5460x4 : Shape := ⟨2, ![5460, 4]⟩
abbrev S8x4x5460 : Shape := ⟨3, ![8, 4, 5460]⟩
abbrev S4x5460 : Shape := ⟨2, ![4, 5460]⟩
abbrev S8x8x1 : Shape := ⟨3, ![8, 8, 1]⟩
abbrev S8x21x5460 : Shape := ⟨3, ![8, 21, 5460]⟩
abbrev S1x1 : Shape := ⟨2, ![1, 1]⟩
abbrev S1x21x5460 : Shape := ⟨3, ![1, 21, 5460]⟩
abbrev S8x5460 : Shape := ⟨2, ![8, 5460]⟩
abbrev S1x5460 : Shape := ⟨2, ![1, 5460]⟩
abbrev S1x1x5460 : Shape := ⟨3, ![1, 1, 5460]⟩
abbrev S8x8x5460 : Shape := ⟨3, ![8, 8, 5460]⟩
abbrev S8x8x4096 : Shape := ⟨3, ![8, 8, 4096]⟩
abbrev S1x1x4096 : Shape := ⟨3, ![1, 1, 4096]⟩
abbrev S8x8x1024 : Shape := ⟨3, ![8, 8, 1024]⟩
abbrev S1x1x1024 : Shape := ⟨3, ![1, 1, 1024]⟩
abbrev S8x8x256 : Shape := ⟨3, ![8, 8, 256]⟩
abbrev S1x1x256 : Shape := ⟨3, ![1, 1, 256]⟩
abbrev S8x8x84 : Shape := ⟨3, ![8, 8, 84]⟩
abbrev S1x1x84 : Shape := ⟨3, ![1, 1, 84]⟩
abbrev S1x8x1 : Shape := ⟨3, ![1, 8, 1]⟩
abbrev S8x1x5460 : Shape := ⟨3, ![8, 1, 5460]⟩
abbrev S1x8x8x5460 : Shape := ⟨4, ![1, 8, 8, 5460]⟩
abbrev S1 : Shape := ⟨1, ![1]⟩
abbrev S1x1x1x1 : Shape := ⟨4, ![1, 1, 1, 1]⟩
abbrev S21x1 : Shape := ⟨2, ![21, 1]⟩
abbrev S21x5460 : Shape := ⟨2, ![21, 5460]⟩
abbrev S1x1x1 : Shape := ⟨3, ![1, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x5460x4, .f32⟩
  | .hbm, ⟨1, _⟩ => ⟨S8x5460x21, .f32⟩
  | .hbm, ⟨2, _⟩ => ⟨S8x8x4, .f32⟩
  | .hbm, ⟨3, _⟩ => ⟨S8x8, .i32⟩
  | .hbm, ⟨4, _⟩ => ⟨S5460x4, .f32⟩
  | .hbm, ⟨5, _⟩ => ⟨S8x4x5460, .f32⟩
  | .hbm, ⟨6, _⟩ => ⟨S4x5460, .f32⟩
  | .hbm, ⟨7, _⟩ => ⟨S8x8, .f32⟩
  | .hbm, ⟨8, _⟩ => ⟨S8x8x1, .f32⟩
  | .hbm, ⟨9, _⟩ => ⟨S8x21x5460, .f32⟩
  | .hbm, ⟨10, _⟩ => ⟨S1x1, .f32⟩
  | .local _ .vmem, ⟨0, _⟩ => ⟨S8x4x5460, .f32⟩
  | .local _ .vmem, ⟨1, _⟩ => ⟨S4x5460, .f32⟩
  | .local _ .vmem, ⟨2, _⟩ => ⟨S8x8x4, .f32⟩
  | .local _ .vmem, ⟨3, _⟩ => ⟨S8x8x1, .f32⟩
  | .local _ .vmem, ⟨4, _⟩ => ⟨S1x21x5460, .f32⟩
  | .local _ .vmem, ⟨5, _⟩ => ⟨S1x21x5460, .f32⟩
  | .local _ .vmem, ⟨6, _⟩ => ⟨S1x1, .f32⟩
  | .local _ .vmem, ⟨7, _⟩ => ⟨S8x5460, .f32⟩
  | .local _ .vmem, ⟨8, _⟩ => ⟨S1x1, .f32⟩
  | .local _ .vmem, ⟨9, _⟩ => ⟨S1x1, .f32⟩
  | _, _ => ⟨S8x5460x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v5 : Index := Scalar.indexCast arg0
  let c0 : Index := 0#32
  ![v5.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4x5460 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x5460 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x21x5460 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "per_prior" => some ((43680⁻¹ : ℝ) : EReal)
  | _ => none
-- ==== ReferenceIdeal.lean ====
abbrev S8x5460x4 : Shape := ⟨3, ![8, 5460, 4]⟩
abbrev S8x5460x21 : Shape := ⟨3, ![8, 5460, 21]⟩
abbrev S8x8x4 : Shape := ⟨3, ![8, 8, 4]⟩
abbrev S8x8 : Shape := ⟨2, ![8, 8]⟩
abbrev S5460x4 : Shape := ⟨2, ![5460, 4]⟩
abbrev S8x8x2 : Shape := ⟨3, ![8, 8, 2]⟩
abbrev S_ : Shape := ⟨0, ![]⟩
abbrev S8x8x1 : Shape := ⟨3, ![8, 8, 1]⟩
abbrev S5460x1 : Shape := ⟨2, ![5460, 1]⟩
abbrev S5460 : Shape := ⟨1, ![5460]⟩
abbrev S1x1x5460 : Shape := ⟨3, ![1, 1, 5460]⟩
abbrev S8x8x5460 : Shape := ⟨3, ![8, 8, 5460]⟩
abbrev S8x8x4096 : Shape := ⟨3, ![8, 8, 4096]⟩
abbrev S8x8x9 : Shape := ⟨3, ![8, 8, 9]⟩
abbrev S8x8x1024 : Shape := ⟨3, ![8, 8, 1024]⟩
abbrev S8x8x256 : Shape := ⟨3, ![8, 8, 256]⟩
abbrev S8x8x64 : Shape := ⟨3, ![8, 8, 64]⟩
abbrev S8x8x16 : Shape := ⟨3, ![8, 8, 16]⟩
abbrev S8x8x49 : Shape := ⟨3, ![8, 8, 49]⟩
abbrev S5460x2 : Shape := ⟨2, ![5460, 2]⟩
abbrev S8x8x1x2 : Shape := ⟨4, ![8, 8, 1, 2]⟩
abbrev S1x1x5460x2 : Shape := ⟨4, ![1, 1, 5460, 2]⟩
abbrev S8x8x5460x2 : Shape := ⟨4, ![8, 8, 5460, 2]⟩
abbrev S8x8x5460x1 : Shape := ⟨4, ![8, 8, 5460, 1]⟩
abbrev S8x8x49x1 : Shape := ⟨4, ![8, 8, 49, 1]⟩
abbrev S8x8x49x4 : Shape := ⟨4, ![8, 8, 49, 4]⟩
abbrev S1x1x1x5460 : Shape := ⟨4, ![1, 1, 1, 5460]⟩
abbrev S8x8x49x5460 : Shape := ⟨4, ![8, 8, 49, 5460]⟩
abbrev S8x5460 : Shape := ⟨2, ![8, 5460]⟩
abbrev S8x1x5460 : Shape := ⟨3, ![8, 1, 5460]⟩
abbrev S8x1 : Shape := ⟨2, ![8, 1]⟩
abbrev S8 : Shape := ⟨1, ![8]⟩
abbrev S1x5460x4 : Shape := ⟨3, ![1, 5460, 4]⟩
abbrev S8x5460x2 : Shape := ⟨3, ![8, 5460, 2]⟩
abbrev S1x5460x2 : Shape := ⟨3, ![1, 5460, 2]⟩
abbrev S8x8x1x4 : Shape := ⟨4, ![8, 8, 1, 4]⟩
abbrev S8x8x49x2 : Shape := ⟨4, ![8, 8, 49, 2]⟩
abbrev S8x5460x1 : Shape := ⟨3, ![8, 5460, 1]⟩
abbrev S1x1x21 : Shape := ⟨3, ![1, 1, 21]⟩
abbrev S1x1 : Shape := ⟨2, ![1, 1]⟩

abbrev nBuf : Space → Nat
  | .hbm => 506
  | .vmem => 0
  | .smem => 0
  | _ => 0

abbrev hbmTy0_0 (i : Nat) : BufTy := match i % 128 with
  | 0 => ⟨S8x5460x4, .f32⟩
  | 1 => ⟨S8x5460x21, .f32⟩
  | 2 => ⟨S8x8x4, .f32⟩
  | 3 => ⟨S8x8, .i32⟩
  | 4 => ⟨S5460x4, .f32⟩
  | 5 => ⟨S8x8x2, .f32⟩
  | 6 => ⟨S8x8x2, .f32⟩
  | 7 => ⟨S8x8x2, .f32⟩
  | 8 => ⟨S_, .f32⟩
  | 9 => ⟨S8x8x2, .f32⟩
  | 10 => ⟨S8x8x2, .f32⟩
  | 11 => ⟨S8x8x2, .f32⟩
  | 12 => ⟨S8x8x2, .f32⟩
  | 13 => ⟨S8x8x2, .f32⟩
  | 14 => ⟨S8x8x4, .f32⟩
  | 15 => ⟨S8x8x1, .f32⟩
  | 16 => ⟨S8x8, .f32⟩
  | 17 => ⟨S8x8x1, .f32⟩
  | 18 => ⟨S5460x1, .f32⟩
  | 19 => ⟨S5460, .f32⟩
  | 20 => ⟨S1x1x5460, .f32⟩
  | 21 => ⟨S8x8x5460, .f32⟩
  | 22 => ⟨S8x8x5460, .f32⟩
  | 23 => ⟨S8x8x5460, .f32⟩
  | 24 => ⟨S8x8x5460, .f32⟩
  | 25 => ⟨S8x8x1, .f32⟩
  | 26 => ⟨S8x8, .f32⟩
  | 27 => ⟨S8x8x1, .f32⟩
  | 28 => ⟨S5460x1, .f32⟩
  | 29 => ⟨S5460, .f32⟩
  | 30 => ⟨S1x1x5460, .f32⟩
  | 31 => ⟨S8x8x5460, .f32⟩
  | 32 => ⟨S8x8x5460, .f32⟩
  | 33 => ⟨S8x8x5460, .f32⟩
  | 34 => ⟨S8x8x5460, .f32⟩
  | 35 => ⟨S8x8x5460, .f32⟩
  | 36 => ⟨S8x8x5460, .f32⟩
  | 37 => ⟨S8x8x4096, .f32⟩
  | 38 => ⟨S_, .f32⟩
  | 39 => ⟨S8x8x4096, .f32⟩
  | 40 => ⟨S8x8x4096, .f32⟩
  | 41 => ⟨S8x8x9, .f32⟩
  | 42 => ⟨S8x8x9, .i32⟩
  | 43 => ⟨S_, .i32⟩
  | 44 => ⟨S8x8x9, .i32⟩
  | 45 => ⟨S8x8x9, .i32⟩
  | 46 => ⟨S8x8x1024, .f32⟩
  | 47 => ⟨S_, .f32⟩
  | 48 => ⟨S8x8x1024, .f32⟩
  | 49 => ⟨S8x8x1024, .f32⟩
  | 50 => ⟨S8x8x9, .f32⟩
  | 51 => ⟨S8x8x9, .i32⟩
  | 52 => ⟨S_, .i32⟩
  | 53 => ⟨S8x8x9, .i32⟩
  | 54 => ⟨S8x8x9, .i32⟩
  | 55 => ⟨S8x8x256, .f32⟩
  | 56 => ⟨S_, .f32⟩
  | 57 => ⟨S8x8x256, .f32⟩
  | 58 => ⟨S8x8x256, .f32⟩
  | 59 => ⟨S8x8x9, .f32⟩
  | 60 => ⟨S8x8x9, .i32⟩
  | 61 => ⟨S_, .i32⟩
  | 62 => ⟨S8x8x9, .i32⟩
  | 63 => ⟨S8x8x9, .i32⟩
  | 64 => ⟨S8x8x64, .f32⟩
  | 65 => ⟨S_, .f32⟩
  | 66 => ⟨S8x8x64, .f32⟩
  | 67 => ⟨S8x8x64, .f32⟩
  | 68 => ⟨S8x8x9, .f32⟩
  | 69 => ⟨S8x8x9, .i32⟩
  | 70 => ⟨S_, .i32⟩
  | 71 => ⟨S8x8x9, .i32⟩
  | 72 => ⟨S8x8x9, .i32⟩
  | 73 => ⟨S8x8x16, .f32⟩
  | 74 => ⟨S_, .f32⟩
  | 75 => ⟨S8x8x16, .f32⟩
  | 76 => ⟨S8x8x16, .f32⟩
  | 77 => ⟨S8x8x9, .f32⟩
  | 78 => ⟨S8x8x9, .i32⟩
  | 79 => ⟨S_, .i32⟩
  | 80 => ⟨S8x8x9, .i32⟩
  | 81 => ⟨S8x8x9, .i32⟩
  | 82 => ⟨S8x8x4, .f32⟩
  | 83 => ⟨S_, .f32⟩
  | 84 => ⟨S8x8x4, .f32⟩
  | 85 => ⟨S8x8x4, .f32⟩
  | 86 => ⟨S8x8x4, .f32⟩
  | 87 => ⟨S8x8x4, .i32⟩
  | 88 => ⟨S_, .i32⟩
  | 89 => ⟨S8x8x4, .i32⟩
  | 90 => ⟨S8x8x4, .i32⟩
  | 91 => ⟨S8x8x49, .i32⟩
  | 92 => ⟨S5460x2, .f32⟩
  | 93 => ⟨S5460x2, .f32⟩
  | 94 => ⟨S_, .f32⟩
  | 95 => ⟨S5460x2, .f32⟩
  | 96 => ⟨S5460x2, .f32⟩
  | 97 => ⟨S5460x2, .f32⟩
  | 98 => ⟨S5460x2, .f32⟩
  | 99 => ⟨S5460x2, .f32⟩
  | 100 => ⟨S_, .f32⟩
  | 101 => ⟨S5460x2, .f32⟩
  | 102 => ⟨S5460x2, .f32⟩
  | 103 => ⟨S5460x2, .f32⟩
  | 104 => ⟨S5460x4, .f32⟩
  | 105 => ⟨S8x8x2, .f32⟩
  | 106 => ⟨S8x8x1x2, .f32⟩
  | 107 => ⟨S5460x2, .f32⟩
  | 108 => ⟨S1x1x5460x2, .f32⟩
  | 109 => ⟨S8x8x5460x2, .f32⟩
  | 110 => ⟨S8x8x5460x2, .f32⟩
  | 111 => ⟨S8x8x5460x2, .f32⟩
  | 112 => ⟨S8x8x2, .f32⟩
  | 113 => ⟨S8x8x1x2, .f32⟩
  | 114 => ⟨S5460x2, .f32⟩
  | 115 => ⟨S1x1x5460x2, .f32⟩
  | 116 => ⟨S8x8x5460x2, .f32⟩
  | 117 => ⟨S8x8x5460x2, .f32⟩
  | 118 => ⟨S8x8x5460x2, .f32⟩
  | 119 => ⟨S8x8x5460x2, .f32⟩
  | 120 => ⟨S_, .f32⟩
  | 121 => ⟨S_, .f32⟩
  | 122 => ⟨S8x8x5460x2, .f32⟩
  | 123 => ⟨S8x8x5460x2, .f32⟩
  | 124 => ⟨S8x8x5460x1, .f32⟩
  | 125 => ⟨S8x8x5460, .f32⟩
  | 126 => ⟨S8x8x5460x1, .f32⟩
  | 127 => ⟨S8x8x5460, .f32⟩
  | _ => ⟨S8x5460x4, .f32⟩

abbrev hbmTy0_1 (i : Nat) : BufTy := match i % 128 with
  | 0 => ⟨S8x8x5460, .f32⟩
  | 1 => ⟨S8x8x1, .f32⟩
  | 2 => ⟨S8x8, .f32⟩
  | 3 => ⟨S8x8x1, .f32⟩
  | 4 => ⟨S8x8, .f32⟩
  | 5 => ⟨S8x8, .f32⟩
  | 6 => ⟨S8x8x1, .f32⟩
  | 7 => ⟨S8x8, .f32⟩
  | 8 => ⟨S8x8x1, .f32⟩
  | 9 => ⟨S8x8, .f32⟩
  | 10 => ⟨S8x8, .f32⟩
  | 11 => ⟨S8x8, .f32⟩
  | 12 => ⟨S8x8x1, .f32⟩
  | 13 => ⟨S5460x1, .f32⟩
  | 14 => ⟨S5460, .f32⟩
  | 15 => ⟨S5460x1, .f32⟩
  | 16 => ⟨S5460, .f32⟩
  | 17 => ⟨S5460, .f32⟩
  | 18 => ⟨S5460x1, .f32⟩
  | 19 => ⟨S5460, .f32⟩
  | 20 => ⟨S5460x1, .f32⟩
  | 21 => ⟨S5460, .f32⟩
  | 22 => ⟨S5460, .f32⟩
  | 23 => ⟨S5460, .f32⟩
  | 24 => ⟨S1x1x5460, .f32⟩
  | 25 => ⟨S8x8x5460, .f32⟩
  | 26 => ⟨S8x8x5460, .f32⟩
  | 27 => ⟨S8x8x5460, .f32⟩
  | 28 => ⟨S8x8x5460, .f32⟩
  | 29 => ⟨S_, .f32⟩
  | 30 => ⟨S_, .f32⟩
  | 31 => ⟨S8x8x5460, .f32⟩
  | 32 => ⟨S8x8x5460, .f32⟩
  | 33 => ⟨S8x8x5460, .f32⟩
  | 34 => ⟨S_, .i32⟩
  | 35 => ⟨S8x8x49, .i32⟩
  | 36 => ⟨S8x8x49, .i1⟩
  | 37 => ⟨S_, .i32⟩
  | 38 => ⟨S8x8x49, .i32⟩
  | 39 => ⟨S8x8x49, .i32⟩
  | 40 => ⟨S8x8x49, .i32⟩
  | 41 => ⟨S8x8x49x1, .i32⟩
  | 42 => ⟨S8x8x49, .f32⟩
  | 43 => ⟨S_, .f32⟩
  | 44 => ⟨S8x8, .f32⟩
  | 45 => ⟨S_, .f32⟩
  | 46 => ⟨S8x8, .f32⟩
  | 47 => ⟨S8x8, .f32⟩
  | 48 => ⟨S_, .i32⟩
  | 49 => ⟨S_, .f32⟩
  | 50 => ⟨S8x8, .f32⟩
  | 51 => ⟨S8x8x1, .f32⟩
  | 52 => ⟨S_, .f32⟩
  | 53 => ⟨S8x8x1, .f32⟩
  | 54 => ⟨S8x8x1, .f32⟩
  | 55 => ⟨S8x8x49, .f32⟩
  | 56 => ⟨S8x8x49, .f32⟩
  | 57 => ⟨S8x8x49, .f32⟩
  | 58 => ⟨S_, .f32⟩
  | 59 => ⟨S_, .f32⟩
  | 60 => ⟨S_, .f32⟩
  | 61 => ⟨S_, .f32⟩
  | 62 => ⟨S8x8, .f32⟩
  | 63 => ⟨S8x8, .f32⟩
  | 64 => ⟨S8x8, .f32⟩
  | 65 => ⟨S_, .f32⟩
  | 66 => ⟨S_, .i1⟩
  | 67 => ⟨S_, .f32⟩
  | 68 => ⟨S_, .f32⟩
  | 69 => ⟨S8x8, .f32⟩
  | 70 => ⟨S8x8, .f32⟩
  | 71 => ⟨S8x8, .f32⟩
  | 72 => ⟨S8x8, .f32⟩
  | 73 => ⟨S_, .i32⟩
  | 74 => ⟨S8x8x49, .i32⟩
  | 75 => ⟨S8x8x49, .i1⟩
  | 76 => ⟨S_, .i32⟩
  | 77 => ⟨S8x8x49, .i32⟩
  | 78 => ⟨S8x8x49, .i32⟩
  | 79 => ⟨S8x8x49, .i32⟩
  | 80 => ⟨S8x8x49x1, .i32⟩
  | 81 => ⟨S8x8x49x4, .f32⟩
  | 82 => ⟨S8x8x1, .f32⟩
  | 83 => ⟨S8x8, .f32⟩
  | 84 => ⟨S8x8x1, .f32⟩
  | 85 => ⟨S8x8x49x1, .f32⟩
  | 86 => ⟨S8x8x49, .f32⟩
  | 87 => ⟨S8x8x49, .f32⟩
  | 88 => ⟨S8x8x49, .i1⟩
  | 89 => ⟨S8x8x49x1, .f32⟩
  | 90 => ⟨S8x8x49, .f32⟩
  | 91 => ⟨S8x8x1, .f32⟩
  | 92 => ⟨S8x8, .f32⟩
  | 93 => ⟨S8x8x1, .f32⟩
  | 94 => ⟨S8x8x49, .f32⟩
  | 95 => ⟨S8x8x49, .i1⟩
  | 96 => ⟨S8x8x49, .i1⟩
  | 97 => ⟨S8x8x1, .f32⟩
  | 98 => ⟨S8x8, .f32⟩
  | 99 => ⟨S8x8x1, .f32⟩
  | 100 => ⟨S8x8x49x1, .f32⟩
  | 101 => ⟨S8x8x49, .f32⟩
  | 102 => ⟨S8x8x49, .f32⟩
  | 103 => ⟨S8x8x49, .i1⟩
  | 104 => ⟨S8x8x49, .i1⟩
  | 105 => ⟨S8x8x49x1, .f32⟩
  | 106 => ⟨S8x8x49, .f32⟩
  | 107 => ⟨S8x8x1, .f32⟩
  | 108 => ⟨S8x8, .f32⟩
  | 109 => ⟨S8x8x1, .f32⟩
  | 110 => ⟨S8x8x49, .f32⟩
  | 111 => ⟨S8x8x49, .i1⟩
  | 112 => ⟨S8x8x49, .i1⟩
  | 113 => ⟨S8x8x1, .f32⟩
  | 114 => ⟨S8x8x49, .f32⟩
  | 115 => ⟨S8x8x49, .i1⟩
  | 116 => ⟨S8x8x49, .i1⟩
  | 117 => ⟨S8x8x49x1, .i32⟩
  | 118 => ⟨S5460, .i32⟩
  | 119 => ⟨S1x1x1x5460, .i32⟩
  | 120 => ⟨S8x8x49x5460, .i32⟩
  | 121 => ⟨S8x8x49x5460, .i32⟩
  | 122 => ⟨S8x8x49x5460, .i1⟩
  | 123 => ⟨S8x8x49x1, .i1⟩
  | 124 => ⟨S8x8x49x5460, .i1⟩
  | 125 => ⟨S8x8x49x5460, .i1⟩
  | 126 => ⟨S_, .i1⟩
  | 127 => ⟨S8x8x5460, .i1⟩
  | _ => ⟨S8x5460x4, .f32⟩

abbrev hbmTy0_2 (i : Nat) : BufTy := match i % 128 with
  | 0 => ⟨S_, .i32⟩
  | 1 => ⟨S8x5460, .i32⟩
  | 2 => ⟨S8x1x5460, .i1⟩
  | 3 => ⟨S8x5460, .i1⟩
  | 4 => ⟨S8x1, .i32⟩
  | 5 => ⟨S8, .i32⟩
  | 6 => ⟨S8x1, .i32⟩
  | 7 => ⟨S8x5460, .i32⟩
  | 8 => ⟨S8x5460, .i32⟩
  | 9 => ⟨S8x1x5460, .i1⟩
  | 10 => ⟨S8x5460, .i1⟩
  | 11 => ⟨S8x1, .i32⟩
  | 12 => ⟨S8, .i32⟩
  | 13 => ⟨S8x1, .i32⟩
  | 14 => ⟨S8x5460, .i32⟩
  | 15 => ⟨S8x5460, .i32⟩
  | 16 => ⟨S8x1x5460, .i1⟩
  | 17 => ⟨S8x5460, .i1⟩
  | 18 => ⟨S8x1, .i32⟩
  | 19 => ⟨S8, .i32⟩
  | 20 => ⟨S8x1, .i32⟩
  | 21 => ⟨S8x5460, .i32⟩
  | 22 => ⟨S8x5460, .i32⟩
  | 23 => ⟨S8x1x5460, .i1⟩
  | 24 => ⟨S8x5460, .i1⟩
  | 25 => ⟨S8x1, .i32⟩
  | 26 => ⟨S8, .i32⟩
  | 27 => ⟨S8x1, .i32⟩
  | 28 => ⟨S8x5460, .i32⟩
  | 29 => ⟨S8x5460, .i32⟩
  | 30 => ⟨S8x1x5460, .i1⟩
  | 31 => ⟨S8x5460, .i1⟩
  | 32 => ⟨S8x1, .i32⟩
  | 33 => ⟨S8, .i32⟩
  | 34 => ⟨S8x1, .i32⟩
  | 35 => ⟨S8x5460, .i32⟩
  | 36 => ⟨S8x5460, .i32⟩
  | 37 => ⟨S8x1x5460, .i1⟩
  | 38 => ⟨S8x5460, .i1⟩
  | 39 => ⟨S8x1, .i32⟩
  | 40 => ⟨S8, .i32⟩
  | 41 => ⟨S8x1, .i32⟩
  | 42 => ⟨S8x5460, .i32⟩
  | 43 => ⟨S8x5460, .i32⟩
  | 44 => ⟨S8x1x5460, .i1⟩
  | 45 => ⟨S8x5460, .i1⟩
  | 46 => ⟨S8x1, .i32⟩
  | 47 => ⟨S8, .i32⟩
  | 48 => ⟨S8x1, .i32⟩
  | 49 => ⟨S8x5460, .i32⟩
  | 50 => ⟨S8x5460, .i32⟩
  | 51 => ⟨S8x1x5460, .i1⟩
  | 52 => ⟨S8x5460, .i1⟩
  | 53 => ⟨S8x1, .i32⟩
  | 54 => ⟨S8, .i32⟩
  | 55 => ⟨S8x1, .i32⟩
  | 56 => ⟨S8x5460, .i32⟩
  | 57 => ⟨S8x5460, .i32⟩
  | 58 => ⟨S1x5460x4, .f32⟩
  | 59 => ⟨S8x5460x2, .f32⟩
  | 60 => ⟨S1x5460x2, .f32⟩
  | 61 => ⟨S8x5460x2, .f32⟩
  | 62 => ⟨S8x5460x2, .f32⟩
  | 63 => ⟨S_, .f32⟩
  | 64 => ⟨S8x5460x2, .f32⟩
  | 65 => ⟨S8x5460x2, .f32⟩
  | 66 => ⟨S1x5460x2, .f32⟩
  | 67 => ⟨S8x5460x2, .f32⟩
  | 68 => ⟨S8x5460x2, .f32⟩
  | 69 => ⟨S8x5460x2, .f32⟩
  | 70 => ⟨S_, .f32⟩
  | 71 => ⟨S8x5460x2, .f32⟩
  | 72 => ⟨S8x5460x2, .f32⟩
  | 73 => ⟨S8x5460x2, .f32⟩
  | 74 => ⟨S1x5460x2, .f32⟩
  | 75 => ⟨S8x5460x2, .f32⟩
  | 76 => ⟨S8x5460x2, .f32⟩
  | 77 => ⟨S8x5460x4, .f32⟩
  | 78 => ⟨S8x5460x2, .f32⟩
  | 79 => ⟨S8x5460x2, .f32⟩
  | 80 => ⟨S_, .f32⟩
  | 81 => ⟨S8x5460x2, .f32⟩
  | 82 => ⟨S8x5460x2, .f32⟩
  | 83 => ⟨S8x5460x2, .f32⟩
  | 84 => ⟨S8x5460x2, .f32⟩
  | 85 => ⟨S8x5460x2, .f32⟩
  | 86 => ⟨S_, .f32⟩
  | 87 => ⟨S8x5460x2, .f32⟩
  | 88 => ⟨S8x5460x2, .f32⟩
  | 89 => ⟨S8x5460x2, .f32⟩
  | 90 => ⟨S8x5460x4, .f32⟩
  | 91 => ⟨S_, .i32⟩
  | 92 => ⟨S8x8x49, .i32⟩
  | 93 => ⟨S8x8x49, .i1⟩
  | 94 => ⟨S_, .i32⟩
  | 95 => ⟨S8x8x49, .i32⟩
  | 96 => ⟨S8x8x49, .i32⟩
  | 97 => ⟨S8x8x49, .i32⟩
  | 98 => ⟨S8x8x49x1, .i32⟩
  | 99 => ⟨S8x8x49x4, .f32⟩
  | 100 => ⟨S8x8x1x4, .f32⟩
  | 101 => ⟨S8x8x49x4, .f32⟩
  | 102 => ⟨S8x8x49x2, .f32⟩
  | 103 => ⟨S8x8x49x2, .f32⟩
  | 104 => ⟨S8x8x49x2, .f32⟩
  | 105 => ⟨S8x8x49x2, .f32⟩
  | 106 => ⟨S8x8x49x2, .f32⟩
  | 107 => ⟨S8x8x49x2, .f32⟩
  | 108 => ⟨S8x8x49x2, .f32⟩
  | 109 => ⟨S_, .f32⟩
  | 110 => ⟨S_, .f32⟩
  | 111 => ⟨S8x8x49x2, .f32⟩
  | 112 => ⟨S8x8x49x2, .f32⟩
  | 113 => ⟨S8x8x49x1, .f32⟩
  | 114 => ⟨S8x8x49, .f32⟩
  | 115 => ⟨S8x8x49x1, .f32⟩
  | 116 => ⟨S8x8x49, .f32⟩
  | 117 => ⟨S8x8x49, .f32⟩
  | 118 => ⟨S8x8x49x1, .f32⟩
  | 119 => ⟨S8x8x49, .f32⟩
  | 120 => ⟨S8x8x49x1, .f32⟩
  | 121 => ⟨S8x8x49, .f32⟩
  | 122 => ⟨S8x8x49, .f32⟩
  | 123 => ⟨S8x8x49x1, .f32⟩
  | 124 => ⟨S8x8x49, .f32⟩
  | 125 => ⟨S8x8x49x1, .f32⟩
  | 126 => ⟨S8x8x49, .f32⟩
  | 127 => ⟨S8x8x49, .f32⟩
  | _ => ⟨S8x5460x4, .f32⟩

abbrev hbmTy0_3 (i : Nat) : BufTy := match i % 128 with
  | 0 => ⟨S8x8x49, .f32⟩
  | 1 => ⟨S8x8x49x1, .f32⟩
  | 2 => ⟨S8x8x49, .f32⟩
  | 3 => ⟨S8x8x49x1, .f32⟩
  | 4 => ⟨S8x8x49, .f32⟩
  | 5 => ⟨S8x8x49, .f32⟩
  | 6 => ⟨S8x8x49x1, .f32⟩
  | 7 => ⟨S8x8x49, .f32⟩
  | 8 => ⟨S8x8x49x1, .f32⟩
  | 9 => ⟨S8x8x49, .f32⟩
  | 10 => ⟨S8x8x49, .f32⟩
  | 11 => ⟨S8x8x49, .f32⟩
  | 12 => ⟨S8x8x49, .f32⟩
  | 13 => ⟨S8x8x49, .f32⟩
  | 14 => ⟨S_, .f32⟩
  | 15 => ⟨S_, .f32⟩
  | 16 => ⟨S8x8x49, .f32⟩
  | 17 => ⟨S8x8x49, .f32⟩
  | 18 => ⟨S8x8x49, .f32⟩
  | 19 => ⟨S8x8x49x2, .f32⟩
  | 20 => ⟨S8x8x49x2, .f32⟩
  | 21 => ⟨S8x8x49x2, .f32⟩
  | 22 => ⟨S_, .f32⟩
  | 23 => ⟨S8x8x49x2, .f32⟩
  | 24 => ⟨S8x8x49x2, .f32⟩
  | 25 => ⟨S8x8x49x2, .f32⟩
  | 26 => ⟨S8x8x49x2, .f32⟩
  | 27 => ⟨S8x8x49x2, .f32⟩
  | 28 => ⟨S_, .f32⟩
  | 29 => ⟨S8x8x49x2, .f32⟩
  | 30 => ⟨S8x8x49x2, .f32⟩
  | 31 => ⟨S8x8x49x2, .f32⟩
  | 32 => ⟨S8x8x49x2, .f32⟩
  | 33 => ⟨S_, .f32⟩
  | 34 => ⟨S8x8x49, .f32⟩
  | 35 => ⟨S8x8x49x2, .f32⟩
  | 36 => ⟨S8x8x49x2, .f32⟩
  | 37 => ⟨S8x8x49x2, .f32⟩
  | 38 => ⟨S8x8x49x2, .f32⟩
  | 39 => ⟨S8x8x49x2, .f32⟩
  | 40 => ⟨S8x8x49x2, .f32⟩
  | 41 => ⟨S8x8x49x2, .f32⟩
  | 42 => ⟨S8x8x49x2, .f32⟩
  | 43 => ⟨S_, .f32⟩
  | 44 => ⟨S8x8x49, .f32⟩
  | 45 => ⟨S_, .f32⟩
  | 46 => ⟨S8x8x49, .f32⟩
  | 47 => ⟨S8x8x49, .f32⟩
  | 48 => ⟨S_, .f32⟩
  | 49 => ⟨S_, .f32⟩
  | 50 => ⟨S8x8x49, .f32⟩
  | 51 => ⟨S8x8x49, .f32⟩
  | 52 => ⟨S8x8x49, .f32⟩
  | 53 => ⟨S8x8x49, .f32⟩
  | 54 => ⟨S8x8x49, .f32⟩
  | 55 => ⟨S8x8x49, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S8x5460x1, .i32⟩
  | 64 => ⟨S1x1x21, .i32⟩
  | 65 => ⟨S8x5460x21, .i32⟩
  | 66 => ⟨S8x5460x21, .i32⟩
  | 67 => ⟨S8x5460x21, .i1⟩
  | 68 => ⟨S8x5460x21, .f32⟩
  | 69 => ⟨S8x5460x21, .f32⟩
  | 70 => ⟨S8x5460x21, .f32⟩
  | 71 => ⟨S_, .f32⟩
  | 72 => ⟨S8x5460x21, .f32⟩
  | 73 => ⟨S8x5460x21, .f32⟩
  | 74 => ⟨S_, .f32⟩
  | 75 => ⟨S8x5460x21, .f32⟩
  | 76 => ⟨S8x5460x21, .f32⟩
  | 77 => ⟨S_, .f32⟩
  | 78 => ⟨S8x5460x21, .f32⟩
  | 79 => ⟨S8x5460x21, .f32⟩
  | 80 => ⟨S8x5460x21, .f32⟩
  | 81 => ⟨S8x5460x21, .f32⟩
  | 82 => ⟨S8x5460x21, .f32⟩
  | 83 => ⟨S8x5460x21, .f32⟩
  | 84 => ⟨S8x5460x21, .f32⟩
  | 85 => ⟨S8x5460x21, .f32⟩
  | 86 => ⟨S8x5460x21, .f32⟩
  | 87 => ⟨S8x5460x21, .f32⟩
  | 88 => ⟨S_, .f32⟩
  | 89 => ⟨S8x5460x21, .f32⟩
  | 90 => ⟨S8x5460x21, .f32⟩
  | 91 => ⟨S_, .f32⟩
  | 92 => ⟨S8x5460x21, .f32⟩
  | 93 => ⟨S8x5460x21, .f32⟩
  | 94 => ⟨S8x5460x21, .f32⟩
  | 95 => ⟨S8x5460x21, .f32⟩
  | 96 => ⟨S_, .f32⟩
  | 97 => ⟨S8x5460x21, .f32⟩
  | 98 => ⟨S8x5460x21, .f32⟩
  | 99 => ⟨S_, .f32⟩
  | 100 => ⟨S8x5460x21, .f32⟩
  | 101 => ⟨S8x5460x21, .f32⟩
  | 102 => ⟨S_, .f32⟩
  | 103 => ⟨S8x5460x21, .f32⟩
  | 104 => ⟨S8x5460x21, .f32⟩
  | 105 => ⟨S8x5460x21, .f32⟩
  | 106 => ⟨S_, .f32⟩
  | 107 => ⟨S8x5460x21, .f32⟩
  | 108 => ⟨S8x5460x21, .f32⟩
  | 109 => ⟨S_, .f32⟩
  | 110 => ⟨S8x5460x21, .f32⟩
  | 111 => ⟨S8x5460x21, .f32⟩
  | 112 => ⟨S8x5460x21, .f32⟩
  | 113 => ⟨S8x5460x21, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S1x1, .f32⟩
  | _ => ⟨S8x5460x4, .f32⟩

abbrev hbmTy (i : Nat) : BufTy := match i / 128 with
  | 0 => hbmTy0_0 i
  | 1 => hbmTy0_1 i
  | 2 => hbmTy0_2 i
  | 3 => hbmTy0_3 i
  | _ => ⟨S8x5460x4, .f32⟩

abbrev bufTy : (tb : Table) → Fin (tcTables nBuf tb) → BufTy
  | .hbm, ⟨i, _⟩ => hbmTy i
  | _, _ => ⟨S8x5460x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_values : Ref sig .tc := ⟨.hbm, 41, rfl⟩
abbrev main_indices : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_values_2 : Ref sig .tc := ⟨.hbm, 50, rfl⟩
abbrev main_indices_3 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_values_6 : Ref sig .tc := ⟨.hbm, 59, rfl⟩
abbrev main_indices_7 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_values_10 : Ref sig .tc := ⟨.hbm, 68, rfl⟩
abbrev main_indices_11 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_values_14 : Ref sig .tc := ⟨.hbm, 77, rfl⟩
abbrev main_indices_15 : Ref sig .tc := ⟨.hbm, 78, rfl⟩
abbrev main_c_16 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_17 : Ref sig .tc := ⟨.hbm, 83, rfl⟩
abbrev main_v57 : Ref sig .tc := ⟨.hbm, 84, rfl⟩
abbrev main_v58 : Ref sig .tc := ⟨.hbm, 85, rfl⟩
abbrev main_values_18 : Ref sig .tc := ⟨.hbm, 86, rfl⟩
abbrev main_indices_19 : Ref sig .tc := ⟨.hbm, 87, rfl⟩
abbrev main_c_20 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_21 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_22 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_23 : Ref sig .tc := ⟨.hbm, 120, rfl⟩
abbrev main_call0_v0 : Ref sig .tc := ⟨.hbm, 121, rfl⟩
abbrev main_call0_v1 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_24 : Ref sig .tc := ⟨.hbm, 157, rfl⟩
abbrev main_call1_v0 : Ref sig .tc := ⟨.hbm, 158, rfl⟩
abbrev main_call1_v1 : Ref sig .tc := ⟨.hbm, 159, rfl⟩
abbrev main_v122 : Ref sig .tc := ⟨.hbm, 160, rfl⟩
abbrev main_v123 : Ref sig .tc := ⟨.hbm, 161, rfl⟩
abbrev main_call2_c : Ref sig .tc := ⟨.hbm, 162, rfl⟩
abbrev main_call2_v0 : Ref sig .tc := ⟨.hbm, 163, rfl⟩
abbrev main_call2_v1 : Ref sig .tc := ⟨.hbm, 164, rfl⟩
abbrev main_call2_c_0 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_call2_v5 : Ref sig .tc := ⟨.hbm, 169, rfl⟩
abbrev main_v124 : Ref sig .tc := ⟨.hbm, 170, rfl⟩
abbrev main_cst_25 : Ref sig .tc := ⟨.hbm, 171, rfl⟩
abbrev main_v125 : Ref sig .tc := ⟨.hbm, 172, rfl⟩
abbrev main_cst_26 : Ref sig .tc := ⟨.hbm, 173, rfl⟩
abbrev main_v126 : Ref sig .tc := ⟨.hbm, 174, rfl⟩
abbrev main_v127 : Ref sig .tc := ⟨.hbm, 175, rfl⟩
abbrev main_c_27 : Ref sig .tc := ⟨.hbm, 176, rfl⟩
abbrev main_call3_call0_cst : Ref sig .tc := ⟨.hbm, 177, rfl⟩
abbrev main_call3_call0_v0 : Ref sig .tc := ⟨.hbm, 178, rfl⟩
abbrev main_call3_call0_v1 : Ref sig .tc := ⟨.hbm, 179, rfl⟩
abbrev main_call3_call0_cst_0 : Ref sig .tc := ⟨.hbm, 180, rfl⟩
abbrev main_call3_call0_v2 : Ref sig .tc := ⟨.hbm, 181, rfl⟩
abbrev main_call3_call0_v3 : Ref sig .tc := ⟨.hbm, 182, rfl⟩
abbrev main_call3_call0_v4 : Ref sig .tc := ⟨.hbm, 183, rfl⟩
abbrev main_call3_call0_v5 : Ref sig .tc := ⟨.hbm, 184, rfl⟩
abbrev main_call3_call0_v6 : Ref sig .tc := ⟨.hbm, 185, rfl⟩
abbrev main_call3_call0_v7 : Ref sig .tc := ⟨.hbm, 186, rfl⟩
abbrev main_call3_call0_cst_1 : Ref sig .tc := ⟨.hbm, 187, rfl⟩
abbrev main_call3_call0_v8 : Ref sig .tc := ⟨.hbm, 188, rfl⟩
abbrev main_call3_call0_cst_2 : Ref sig .tc := ⟨.hbm, 189, rfl⟩
abbrev main_call3_call0_v9 : Ref sig .tc := ⟨.hbm, 190, rfl⟩
abbrev main_call3_call0_v10 : Ref sig .tc := ⟨.hbm, 191, rfl⟩
abbrev main_call3_call0_v11 : Ref sig .tc := ⟨.hbm, 192, rfl⟩
abbrev main_call3_call0_cst_3 : Ref sig .tc := ⟨.hbm, 193, rfl⟩
abbrev main_call3_call0_v12 : Ref sig .tc := ⟨.hbm, 194, rfl⟩
abbrev main_call3_call0_cst_4 : Ref sig .tc := ⟨.hbm, 195, rfl⟩
abbrev main_call3_call0_call0_v0 : Ref sig .tc := ⟨.hbm, 196, rfl⟩
abbrev main_call3_call0_call0_v1 : Ref sig .tc := ⟨.hbm, 197, rfl⟩
abbrev main_call3_v0 : Ref sig .tc := ⟨.hbm, 198, rfl⟩
abbrev main_v128 : Ref sig .tc := ⟨.hbm, 199, rfl⟩
abbrev main_v129 : Ref sig .tc := ⟨.hbm, 200, rfl⟩
abbrev main_c_28 : Ref sig .tc := ⟨.hbm, 201, rfl⟩
abbrev main_v130 : Ref sig .tc := ⟨.hbm, 202, rfl⟩
abbrev main_v131 : Ref sig .tc := ⟨.hbm, 203, rfl⟩
abbrev main_c_29 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_c_30 : Ref sig .tc := ⟨.hbm, 254, rfl⟩
abbrev main_v181 : Ref sig .tc := ⟨.hbm, 255, rfl⟩
abbrev main_c_31 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_call4_v0 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_call5_v0 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_call6_v0 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_call7_v0 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_call8_v0 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_call9_v0 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_call10_v0 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_call11_v0 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_cst_32 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_cst_33 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_cst_34 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_cst_35 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_c_36 : Ref sig .tc := ⟨.hbm, 347, rfl⟩
abbrev main_v260 : Ref sig .tc := ⟨.hbm, 348, rfl⟩
abbrev main_v261 : Ref sig .tc := ⟨.hbm, 349, rfl⟩
abbrev main_c_37 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_cst_38 : Ref sig .tc := ⟨.hbm, 365, rfl⟩
abbrev main_call12_v0 : Ref sig .tc := ⟨.hbm, 366, rfl⟩
abbrev main_call12_v1 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_cst_39 : Ref sig .tc := ⟨.hbm, 398, rfl⟩
abbrev main_call13_v0 : Ref sig .tc := ⟨.hbm, 399, rfl⟩
abbrev main_call13_v1 : Ref sig .tc := ⟨.hbm, 400, rfl⟩
abbrev main_v306 : Ref sig .tc := ⟨.hbm, 401, rfl⟩
abbrev main_v307 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_cst_40 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_cst_41 : Ref sig .tc := ⟨.hbm, 412, rfl⟩
abbrev main_v316 : Ref sig .tc := ⟨.hbm, 413, rfl⟩
abbrev main_v317 : Ref sig .tc := ⟨.hbm, 414, rfl⟩
abbrev main_v318 : Ref sig .tc := ⟨.hbm, 415, rfl⟩
abbrev main_v319 : Ref sig .tc := ⟨.hbm, 416, rfl⟩
abbrev main_cst_42 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_cst_43 : Ref sig .tc := ⟨.hbm, 427, rfl⟩
abbrev main_v329 : Ref sig .tc := ⟨.hbm, 428, rfl⟩
abbrev main_cst_44 : Ref sig .tc := ⟨.hbm, 429, rfl⟩
abbrev main_v330 : Ref sig .tc := ⟨.hbm, 430, rfl⟩
abbrev main_v331 : Ref sig .tc := ⟨.hbm, 431, rfl⟩
abbrev main_cst_45 : Ref sig .tc := ⟨.hbm, 432, rfl⟩
abbrev main_call14_v0 : Ref sig .tc := ⟨.hbm, 433, rfl⟩
abbrev main_call14_v1 : Ref sig .tc := ⟨.hbm, 434, rfl⟩
abbrev main_v332 : Ref sig .tc := ⟨.hbm, 435, rfl⟩
abbrev main_v333 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_cst_46 : Ref sig .tc := ⟨.hbm, 440, rfl⟩
abbrev main_v337 : Ref sig .tc := ⟨.hbm, 441, rfl⟩
abbrev main_cst_47 : Ref sig .tc := ⟨.hbm, 442, rfl⟩
abbrev main_v338 : Ref sig .tc := ⟨.hbm, 443, rfl⟩
abbrev main_cst_48 : Ref sig .tc := ⟨.hbm, 444, rfl⟩
abbrev main_v339 : Ref sig .tc := ⟨.hbm, 445, rfl⟩
abbrev main_v340 : Ref sig .tc := ⟨.hbm, 446, rfl⟩
abbrev main_call15_v0 : Ref sig .tc := ⟨.hbm, 447, rfl⟩
abbrev main_call15_v1 : Ref sig .tc := ⟨.hbm, 448, rfl⟩
abbrev main_call15_v2 : Ref sig .tc := ⟨.hbm, 449, rfl⟩
abbrev main_call15_v3 : Ref sig .tc := ⟨.hbm, 450, rfl⟩
abbrev main_call15_v4 : Ref sig .tc := ⟨.hbm, 451, rfl⟩
abbrev main_v341 : Ref sig .tc := ⟨.hbm, 452, rfl⟩
abbrev main_v342 : Ref sig .tc := ⟨.hbm, 453, rfl⟩
abbrev main_v343 : Ref sig .tc := ⟨.hbm, 454, rfl⟩
abbrev main_cst_49 : Ref sig .tc := ⟨.hbm, 455, rfl⟩
abbrev main_v344 : Ref sig .tc := ⟨.hbm, 456, rfl⟩
abbrev main_v345 : Ref sig .tc := ⟨.hbm, 457, rfl⟩
abbrev main_cst_50 : Ref sig .tc := ⟨.hbm, 458, rfl⟩
abbrev main_v346 : Ref sig .tc := ⟨.hbm, 459, rfl⟩
abbrev main_v347 : Ref sig .tc := ⟨.hbm, 460, rfl⟩
abbrev main_cst_51 : Ref sig .tc := ⟨.hbm, 461, rfl⟩
abbrev main_v348 : Ref sig .tc := ⟨.hbm, 462, rfl⟩
abbrev main_v349 : Ref sig .tc := ⟨.hbm, 463, rfl⟩
abbrev main_v350 : Ref sig .tc := ⟨.hbm, 464, rfl⟩
abbrev main_v351 : Ref sig .tc := ⟨.hbm, 465, rfl⟩
abbrev main_v352 : Ref sig .tc := ⟨.hbm, 466, rfl⟩
abbrev main_v353 : Ref sig .tc := ⟨.hbm, 467, rfl⟩
abbrev main_v354 : Ref sig .tc := ⟨.hbm, 468, rfl⟩
abbrev main_v355 : Ref sig .tc := ⟨.hbm, 469, rfl⟩
abbrev main_v356 : Ref sig .tc := ⟨.hbm, 470, rfl⟩
abbrev main_v357 : Ref sig .tc := ⟨.hbm, 471, rfl⟩
abbrev main_cst_52 : Ref sig .tc := ⟨.hbm, 472, rfl⟩
abbrev main_v358 : Ref sig .tc := ⟨.hbm, 473, rfl⟩
abbrev main_v359 : Ref sig .tc := ⟨.hbm, 474, rfl⟩
abbrev main_cst_53 : Ref sig .tc := ⟨.hbm, 475, rfl⟩
abbrev main_v360 : Ref sig .tc := ⟨.hbm, 476, rfl⟩
abbrev main_v361 : Ref sig .tc := ⟨.hbm, 477, rfl⟩
abbrev main_v362 : Ref sig .tc := ⟨.hbm, 478, rfl⟩
abbrev main_v363 : Ref sig .tc := ⟨.hbm, 479, rfl⟩
abbrev main_cst_54 : Ref sig .tc := ⟨.hbm, 480, rfl⟩
abbrev main_v364 : Ref sig .tc := ⟨.hbm, 481, rfl⟩
abbrev main_v365 : Ref sig .tc := ⟨.hbm, 482, rfl⟩
abbrev main_cst_55 : Ref sig .tc := ⟨.hbm, 483, rfl⟩
abbrev main_v366 : Ref sig .tc := ⟨.hbm, 484, rfl⟩
abbrev main_v367 : Ref sig .tc := ⟨.hbm, 485, rfl⟩
abbrev main_cst_56 : Ref sig .tc := ⟨.hbm, 486, rfl⟩
abbrev main_v368 : Ref sig .tc := ⟨.hbm, 487, rfl⟩
abbrev main_v369 : Ref sig .tc := ⟨.hbm, 488, rfl⟩
abbrev main_v370 : Ref sig .tc := ⟨.hbm, 489, rfl⟩
abbrev main_cst_57 : Ref sig .tc := ⟨.hbm, 490, rfl⟩
abbrev main_v371 : Ref sig .tc := ⟨.hbm, 491, rfl⟩
abbrev main_v372 : Ref sig .tc := ⟨.hbm, 492, rfl⟩
abbrev main_cst_58 : Ref sig .tc := ⟨.hbm, 493, rfl⟩
abbrev main_v373 : Ref sig .tc := ⟨.hbm, 494, rfl⟩
abbrev main_v374 : Ref sig .tc := ⟨.hbm, 495, rfl⟩
abbrev main_v375 : Ref sig .tc := ⟨.hbm, 496, rfl⟩
abbrev main_v376 : Ref sig .tc := ⟨.hbm, 497, rfl⟩
abbrev main_cst_59 : Ref sig .tc := ⟨.hbm, 498, rfl⟩
abbrev main_v377 : Ref sig .tc := ⟨.hbm, 499, rfl⟩
abbrev main_cst_60 : Ref sig .tc := ⟨.hbm, 500, rfl⟩
abbrev main_v378 : Ref sig .tc := ⟨.hbm, 501, rfl⟩
abbrev main_cst_61 : Ref sig .tc := ⟨.hbm, 502, rfl⟩
abbrev main_v379 : Ref sig .tc := ⟨.hbm, 503, rfl⟩
abbrev main_v380 : Ref sig .tc := ⟨.hbm, 504, rfl⟩
abbrev main_v381 : Ref sig .tc := ⟨.hbm, 505, rfl⟩

abbrev nD : Nat := 1
abbrev τ : Topo := Topo.v7x

variable {F : FTy → Type} [FloatOps F]
-- ==== Proof.Frames.lean ====
/-
  The claims that need no values: each of the three programs runs to its end with its argument arrays unchanged and every
  semaphore back at zero, and the kernel's one named constant is the number the table names.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_in_range
public import Idealize.ShloMosaic.Lib.Quiescent

@[expose] public section

noncomputable section

open Idealize.ShloMosaic Idealize.ShloMosaic.TcCoe Idealize.SL.Sem

namespace Cert.Frames

/-- The kernel as it is compiled runs and leaves its arguments alone. -/
theorem kernel : Cert.quiescent_Kernel := fun m ρ _ => Cert.Kernel.Gen.frame m ρ

/-- So does its idealization. -/
theorem kernelIdeal : Cert.quiescent_KernelIdeal := fun m ρ _ => Cert.KernelIdeal.Gen.frame m ρ

/-- So does the idealized reference. -/
theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's idealization runs so from the memories of the precondition too. -/
theorem kernelIdeal_in_range : Cert.quiescent_KernelIdeal_pre_in_range := fun m ρ _ => Cert.KernelIdeal.Gen.frame m ρ

/-- So does the idealized reference. -/
theorem referenceIdeal_in_range : Cert.quiescent_ReferenceIdeal_pre_in_range := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The constant named `per_prior` is the reciprocal of the number of priors of all images. -/
theorem preserves : Cert.preserves_Kernel_KernelIdeal :=
  IdealRules.named_const.statement Cert.KernelIdeal.κ "per_prior" .f32 0x37C00C01#32 ((43680⁻¹ : ℝ) : EReal) rfl

end Cert.Frames

end
-- ==== Proof.Body.lean ====
/-
  What one grid point of the kernel leaves in the output and the carried scratch, case by case.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen
namespace Cert.Body

variable (c : Dev nD) (i : grid0.Coords) (a1 : Memref sig .tc .vmem S8x4x5460 .f32) (h1 : a1.IsWhole)
  (a2 : Memref sig .tc .vmem S4x5460 .f32) (h2 : a2.IsWhole) (a3 : Memref sig .tc .vmem S8x8x4 .f32) (h3 : a3.IsWhole)
  (a4 : Memref sig .tc .vmem S8x8x1 .f32) (h4 : a4.IsWhole) (a5 : Memref sig .tc .vmem S1x21x5460 .f32) (h5 : a5.IsWhole)
  (a6 : Memref sig .tc .vmem S1x1 .f32) (h6 : a6.IsWhole) (a7 : Memref sig .tc .vmem S8x5460 .f32) (h7 : a7.IsWhole)
  (a8 : Memref sig .tc .vmem S1x1 .f32) (h8 : a8.IsWhole) (a9 : Memref sig .tc .vmem S1x1 .f32) (h9 : a9.IsWhole)
  (x0 : Vec Ideal S8x4x5460 .f32) (x1 : Vec Ideal S4x5460 .f32) (x2 : Vec Ideal S8x8x4 .f32) (x3 : Vec Ideal S8x8x1 .f32)
  (x4 : Vec Ideal S1x21x5460 .f32) (xo : Vec Ideal S1x1 .f32) (xs0 : Vec Ideal S8x5460 .f32) (xs1 xs2 : Vec Ideal S1x1 .f32)

/-- The first two offsets of a whole load. -/
theorem zero2 : (![0, 0] : Fin 2 → ℕ) = fun _ => 0 := by
  funext k
  fin_cases k <;> rfl

/-- The first three offsets of a whole load. -/
theorem zero3 : (![0, 0, 0] : Fin 3 → ℕ) = fun _ => 0 := by
  funext k
  fin_cases k <;> rfl

/-- The row of the label scratch that point `i` reads. -/
def row (i : grid0.Coords) (w : Vec Ideal S8x5460 .f32) : Vec Ideal S1x5460 .f32 :=
  View.ld w (Rect.unit (s := S8x5460) (k0_off1 i) S1x5460.size (k0_off1_inb i))

theorem labels_A (hc0 : cond0_0 i) (hc1 : ¬cond0_1 i) :
    sout0_A_0 c i a1 h1 a2 h2 a3 h3 a4 h4 a5 h5 a6 h6 a7 h7 a8 h8 a9 h9 hc0 hc1 x0 x1 x2 x3 x4
      = kernelRun0_A.sl.v1013 c a2 h2 a3 h3 a4 h4 x1 x2 x3 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4)]
  unfold kernelRun0_A
  dsimp only
  unfold kernelRun0_A.sl.HS0_1
  rw [View.canon_unit_zero zero2]

theorem num_A (hc0 : cond0_0 i) (hc1 : ¬cond0_1 i) :
    sout0_A_1 c i a1 h1 a2 h2 a3 h3 a4 h4 a5 h5 a6 h6 a7 h7 a8 h8 a9 h9 hc0 hc1 x0 x1 x2 x3 x4
      = kernelRun0_A.sl.v1133 c a1 h1 a2 h2 a3 h3 x0 x1 x2 := by
  unfold sout0_A_1
  rw [View.read_writes_eq_canon _ _ _ (scover0_A_1 c i a1 h1 a2 h2 a3 h3 a4 h4 a5 h5 a6 h6 a7 h7 a8 h8 a9 h9 hc0 hc1 x0 x1 x2 x3 x4)]
  unfold kernelRun0_A
  dsimp only
  rw [View.canon_unit_zero zero2]

theorem den_A (hc0 : cond0_0 i) (hc1 : ¬cond0_1 i) :
    sout0_A_2 c i a1 h1 a2 h2 a3 h3 a4 h4 a5 h5 a6 h6 a7 h7 a8 h8 a9 h9 hc0 hc1 x0 x1 x2 x3 x4
      = k0_pay117 (kernelRun0_A.sl.v1137 c a2 h2 a3 h3 x1 x2) := by
  unfold sout0_A_2
  rw [View.read_writes_eq_canon _ _ _ (scover0_A_2 c i a1 h1 a2 h2 a3 h3 a4 h4 a5 h5 a6 h6 a7 h7 a8 h8 a9 h9 hc0 hc1 x0 x1 x2 x3 x4)]
  unfold kernelRun0_A
  dsimp only
  rw [View.canon_unit_zero zero2]

theorem out_A (hc0 : cond0_0 i) (hc1 : ¬cond0_1 i) :
    out0_A_5 c i a1 h1 a2 h2 a3 h3 a4 h4 a5 h5 a6 h6 a7 h7 a8 h8 a9 h9 hc0 hc1 x0 x1 x2 x3 x4
      = k0_pay1 (k0_pay119 (row i (kernelRun0_A.sl.v1013 c a2 h2 a3 h3 a4 h4 x1 x2 x3)) x4) (k0_pay120 (F := Ideal) (k0_pay118 (F := Ideal))) := by
  unfold out0_A_5
  rw [View.read_writes_eq_canon _ _ _ (cover0_A_5 c i a1 h1 a2 h2 a3 h3 a4 h4 a5 h5 a6 h6 a7 h7 a8 h8 a9 h9 hc0 hc1 x0 x1 x2 x3 x4)]
  unfold kernelRun0_A
  dsimp only
  have hl : View.read (Elt Ideal) a7.view (a7.view.writes (Elt Ideal) a7.view.junk
      (kernelRun0_A.sl.HS0_1 c a2 h2 a3 h3 a4 h4 x1 x2 x3)) = kernelRun0_A.sl.v1013 c a2 h2 a3 h3 a4 h4 x1 x2 x3 := by
    rw [View.read_writes_eq_canon _ _ _ (show ∀ y, ∃ pc ∈ kernelRun0_A.sl.HS0_1 c a2 h2 a3 h3 a4 h4 x1 x2 x3, y ∈ pc.1.set from
      scover0_A_0 c i a1 h1 a2 h2 a3 h3 a4 h4 a5 h5 a6 h6 a7 h7 a8 h8 a9 h9 hc0 hc1 x0 x1 x2 x3 x4)]
    unfold kernelRun0_A.sl.HS0_1
    rw [View.canon_unit_zero zero2]
  unfold kernelRun0_A.sl.r_4 kernelRun0_A.sl.r_5 kernelRun0_A.sl.v40 kernelRun0_A.sl.v6 kernelRun0_A.sl.H5_1
  rw [View.canon_cons_unit_zero zero2, View.readCov_unit_zero _ zero2]
  simp only [View.readAt_eq_ld, h5.read_unread]
  rw [hl, View.ld_unit_zero (S := S1x21x5460) zero3]
  rfl

theorem out_B (hc0 : ¬cond0_0 i) (hc1 : ¬cond0_1 i) :
    out0_B_5 c i a1 h1 a2 h2 a3 h3 a4 h4 a5 h5 a6 h6 a7 h7 a8 h8 a9 h9 hc0 hc1 x0 x1 x2 x3 x4 xo xs0 xs1 xs2
      = k0_pay1 (k0_pay119 (row i xs0) x4) (k0_pay120 xo) := by
  frame_out
  rfl

theorem out_C (hc0 : ¬cond0_0 i) (hc1 : cond0_1 i) :
    out0_C_5 c i a1 h1 a2 h2 a3 h3 a4 h4 a5 h5 a6 h6 a7 h7 a8 h8 a9 h9 hc0 hc1 x0 x1 x2 x3 x4 xo xs0 xs1 xs2
      = k0_pay2 (k0_pay1 (k0_pay119 (row i xs0) x4) (k0_pay120 xo)) xs1 xs2 := by
  frame_out
  rfl

end Cert.Body

end
-- ==== Proof.Pick.lean ====
/-
  Which positions a row's k smallest keys stand at. Keys are extended reals; of two equal keys the one at the lower
  position comes first. The kernel finds the positions by ROUNDS: a round looks for the first key and overwrites it with
  +∞, so that after k rounds the marked positions are the wanted ones. The reference SORTS the row stably and keeps the
  first k positions. Both are the one set of k positions that is closed under "comes before" (`Down`), and there is only
  one such set of a given size (`Down.unique`).
-/
module

public import Idealize.ShloMosaic.Lib.SortFacts
public import Mathlib.Data.EReal.Basic
public import Mathlib.Data.Prod.Lex
public import Mathlib.Data.Finset.Max

@[expose] public section

noncomputable section

open Idealize.ShloMosaic
open scoped Classical

namespace Cert.Pick

variable {n m : ℕ}

/-- Position `i` comes before position `j`: its key is smaller, or the keys are equal and `i` is the lower position. -/
def Before (d : Fin n → EReal) (i j : Fin n) : Prop := d i < d j ∨ d i = d j ∧ i < j

/-- Position `i` comes before every other position. -/
def IsFirst (d : Fin n → EReal) (i : Fin n) : Prop := ∀ j, j ≠ i → Before d i j

/-- One round: the first key is overwritten with +∞. -/
def round (d : Fin n → EReal) : Fin n → EReal := fun i => if IsFirst d i then ⊤ else d i

/-- The row with the keys at the positions of `S` overwritten with +∞. -/
def mark (S : Finset (Fin n)) (d : Fin n → EReal) : Fin n → EReal := fun i => if i ∈ S then ⊤ else d i

/-- `S` contains, with a position, every position that comes before it. -/
def Down (d : Fin n → EReal) (S : Finset (Fin n)) : Prop := ∀ i ∈ S, ∀ j, Before d j i → j ∈ S

theorem Before.total (d : Fin n → EReal) {i j : Fin n} (h : i ≠ j) : Before d i j ∨ Before d j i := by
  unfold Before
  rcases lt_trichotomy (d i) (d j) with h1 | h1 | h1
  · exact .inl (.inl h1)
  · rcases lt_or_gt_of_ne h with h2 | h2
    · exact .inl (.inr ⟨h1, h2⟩)
    · exact .inr (.inr ⟨h1.symm, h2⟩)
  · exact .inr (.inl h1)

theorem Before.asymm {d : Fin n → EReal} {i j : Fin n} (h : Before d i j) : ¬ Before d j i := by
  rintro (h' | ⟨h', h2⟩) <;> rcases h with h | ⟨h, h1⟩
  · exact lt_asymm h h'
  · exact absurd h' (by rw [h]; exact lt_irrefl _)
  · exact absurd h (by rw [h']; exact lt_irrefl _)
  · exact lt_asymm h1 h2

theorem Before.trans {d : Fin n → EReal} {i j k : Fin n} (h : Before d i j) (h' : Before d j k) : Before d i k := by
  rcases h with h | ⟨h, h1⟩ <;> rcases h' with h' | ⟨h', h2⟩
  · exact .inl (h.trans h')
  · exact .inl (h' ▸ h)
  · exact .inl (h ▸ h')
  · exact .inr ⟨h.trans h', h1.trans h2⟩

/-- Two closed sets of one size are one set. -/
theorem Down.unique {d : Fin n → EReal} {S T : Finset (Fin n)} (hS : Down d S) (hT : Down d T) (h : S.card = T.card) :
    S = T := by
  have hor : S ⊆ T ∨ T ⊆ S := by
    by_contra hc
    rw [not_or] at hc
    obtain ⟨a, ha, ha'⟩ := Finset.not_subset.mp hc.1
    obtain ⟨b, hb, hb'⟩ := Finset.not_subset.mp hc.2
    have hab : a ≠ b := fun e => ha' (e ▸ hb)
    rcases Before.total d hab with h1 | h1
    · exact ha' (hT b hb a h1)
    · exact hb' (hS a ha b h1)
  rcases hor with h1 | h1
  · exact Finset.eq_of_subset_of_card_le h1 h.ge
  · exact (Finset.eq_of_subset_of_card_le h1 h.le).symm

/-- Outside a closed set there is, if anything is left, a position that comes before all others left. -/
theorem exists_first_left (d : Fin n → EReal) (S : Finset (Fin n)) (h : ∃ w, w ∉ S) :
    ∃ a, a ∉ S ∧ ∀ j, j ∉ S → j ≠ a → Before d a j := by
  obtain ⟨w, hw⟩ := h
  obtain ⟨a, ha, hmin⟩ := Finset.exists_min_image (Finset.univ \ S) (fun i => toLex (d i, i))
    ⟨w, by simp [hw]⟩
  refine ⟨a, by simpa using ha, fun j hj hne => ?_⟩
  have h1 := hmin j (by simp [hj])
  rw [Prod.Lex.le_iff] at h1
  rcases h1 with h1 | ⟨h1, h2⟩
  · exact .inl h1
  · exact .inr ⟨h1, lt_of_le_of_ne h2 (Ne.symm hne)⟩

/-- A round marks the next position, as long as a finite key is left. -/
theorem round_mark {d : Fin n → EReal} {S : Finset (Fin n)} (hS : Down d S) (h : ∃ w, w ∉ S ∧ d w < ⊤) :
    ∃ a, a ∉ S ∧ round (mark S d) = mark (insert a S) d ∧ Down d (insert a S) := by
  obtain ⟨w, hw, hwt⟩ := h
  obtain ⟨a, ha, hfirst⟩ := exists_first_left d S ⟨w, hw⟩
  have hat : d a < ⊤ := by
    by_cases e : w = a
    · exact e ▸ hwt
    · rcases hfirst w hw e with h1 | ⟨h1, _⟩
      · exact h1.trans hwt
      · exact h1 ▸ hwt
  have hisF : IsFirst (mark S d) a := by
    intro j hj
    unfold Before mark
    rw [if_neg ha]
    by_cases hjS : j ∈ S
    · rw [if_pos hjS]; exact .inl hat
    · rw [if_neg hjS]; exact hfirst j hjS hj
  refine ⟨a, ha, ?_, ?_⟩
  · funext i
    by_cases e : i = a
    · subst e
      simp [round, mark, hisF]
    · have : ¬ IsFirst (mark S d) i := fun hi => (hi a (Ne.symm e)).asymm (hisF i e)
      simp [round, mark, this, e]
  · intro i hi j hj
    rw [Finset.mem_insert] at hi ⊢
    by_cases e : j = a
    · exact .inl e
    · refine .inr ?_
      rcases hi with rfl | hi
      · by_contra hjS
        exact (hfirst j hjS e).asymm hj
      · exact hS i hi j hj

/-- After `k` rounds, `k` at most the number of finite keys, a closed set of `k` positions is marked. -/
theorem rounds_mark (d : Fin n → EReal) (W : Finset (Fin n)) (hW : ∀ i ∈ W, d i < ⊤) :
    ∀ k ≤ W.card, ∃ S : Finset (Fin n), S.card = k ∧ Down d S ∧ round^[k] d = mark S d := by
  intro k
  induction k with
  | zero =>
    intro _
    refine ⟨∅, rfl, fun i hi => by simp at hi, ?_⟩
    funext i; simp [mark]
  | succ k ih =>
    intro hk
    obtain ⟨S, hc, hS, hr⟩ := ih (by omega)
    have hex : ∃ w, w ∉ S ∧ d w < ⊤ := by
      have : ¬ W ⊆ S := fun h => by
        have := Finset.card_le_card h
        omega
      obtain ⟨w, hw, hw'⟩ := Finset.not_subset.mp this
      exact ⟨w, hw', hW w hw⟩
    obtain ⟨a, ha, hra, hda⟩ := round_mark hS hex
    exact ⟨insert a S, by rw [Finset.card_insert_of_notMem ha, hc], hda, by
      rw [Function.iterate_succ_apply', hr, hra]⟩

/-- THE ROUNDS, READ. A row holds the finite keys of a shorter row at the places `e` (in order) and +∞ elsewhere; `T` is a
    closed set of `k` positions of the shorter row. After `k` rounds a place `e t` holds +∞ exactly when `t` is in `T`. -/
theorem rounds_eq_top_iff (d : Fin n → EReal) (e : Fin m → Fin n) (he : StrictMono e) (hin : ∀ t, d (e t) < ⊤)
    (hout : ∀ i, (∀ t, e t ≠ i) → d i = ⊤) (T : Finset (Fin m)) (hT : Down (fun t => d (e t)) T) (t : Fin m) :
    round^[T.card] d (e t) = ⊤ ↔ t ∈ T := by
  obtain ⟨S, hc, hS, hr⟩ := rounds_mark d (Finset.univ.image e) (fun i hi => by
      obtain ⟨t, _, rfl⟩ := Finset.mem_image.mp hi
      exact hin t) T.card (by
      rw [Finset.card_image_of_injective _ he.injective]
      exact Finset.card_le_univ T)
  have hT' : Down d (T.image e) := by
    intro i hi j hj
    obtain ⟨t, ht, rfl⟩ := Finset.mem_image.mp hi
    by_cases hjr : ∃ u, e u = j
    · obtain ⟨u, rfl⟩ := hjr
      refine Finset.mem_image_of_mem e (hT t ht u ?_)
      rcases hj with hj | ⟨hj, hj2⟩
      · exact .inl hj
      · exact .inr ⟨hj, he.lt_iff_lt.mp hj2⟩
    · have hjt := hout j (fun u hu => hjr ⟨u, hu⟩)
      rcases hj with hj | ⟨hj, _⟩
      · rw [hjt] at hj; exact absurd hj (not_lt_of_ge le_top)
      · have := hin t; rw [← hj, hjt] at this; exact absurd this (lt_irrefl _)
  have hST : S = T.image e := hS.unique hT' (by rw [hc, Finset.card_image_of_injective _ he.injective])
  rw [hr, hST]
  unfold mark
  constructor
  · intro h
    by_contra ht
    rw [if_neg (fun hm => by
      obtain ⟨u, hu, hue⟩ := Finset.mem_image.mp hm
      exact ht (he.injective hue ▸ hu))] at h
    exact absurd h (hin t).ne
  · intro h
    rw [if_pos (Finset.mem_image_of_mem e h)]

/-! ## The stable sort -/

/-- Two relations that agree on every later element against an earlier one sort a list alike: the stable sort compares
    in that order only. -/
theorem stableSort_congr_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorted by key alone, stably, a position comes before every later one. -/
theorem sortedFrom_before (d : Fin n → EReal) (R : Fin n → Fin n → Bool) (hR : ∀ a b, R a b = true ↔ d a < d b)
    {p q : Fin n} (hpq : p < q) : Before d (sortedFrom R p) (sortedFrom R q) := by
  let L : Fin n → Fin n → Bool := fun a b => decide (Before d a b)
  have hRL : sortPositions n R = sortPositions n L := by
    refine stableSort_congr_later R L _ ?_
    refine (List.pairwise_lt_finRange n).imp fun {a b} hab => ?_
    rw [Bool.eq_iff_iff, hR, decide_eq_true_iff]
    constructor
    · exact fun h => .inl h
    · rintro (h | ⟨_, h⟩)
      · exact h
      · exact absurd h (lt_asymm hab)
  have hsf : sortedFrom R = sortedFrom L := by
    funext k
    unfold sortedFrom
    simp only [List.get_eq_getElem, hRL]
    rfl
  have hne : sortedFrom L p ≠ sortedFrom L q := fun h => hpq.ne (sortedFrom_injective L h)
  have hno := sortedFrom_noInversion L L
    (fun a b h => decide_eq_false (Before.asymm (of_decide_eq_true h))) (fun a b h => h)
    (fun a b c h1 h2 => by
      refine decide_eq_false fun h => ?_
      have h1' := of_decide_eq_false h1
      have h2' := of_decide_eq_false h2
      by_cases e : a = b
      · exact h2' (e ▸ h)
      · by_cases e' : b = c
        · exact h1' (e' ▸ h)
        · exact (Before.trans ((Before.total d e).resolve_left h1') h).asymm
            ((Before.total d e').resolve_left h2')) p q hpq
  rw [hsf]
  exact (Before.total d hne).resolve_right (of_decide_eq_false hno)

/-- The first `k` positions of the sort are a closed set of `k` positions. -/
theorem down_sorted (d : Fin n → EReal) (R : Fin n → Fin n → Bool) (hR : ∀ a b, R a b = true ↔ d a < d b)
    {k : ℕ} (hk : k ≤ n) :
    Down d (Finset.univ.image fun p : Fin k => sortedFrom R (p.castLE hk)) := by
  intro i hi j hj
  obtain ⟨p, _, rfl⟩ := Finset.mem_image.mp hi
  obtain ⟨q, rfl⟩ := sortedFrom_surjective R j
  have hq : q < p.castLE hk := by
    by_contra hc
    rcases eq_or_lt_of_le (not_lt.mp hc) with h | h
    · rw [← h] at hj; exact hj.asymm hj
    · exact (sortedFrom_before d R hR h).asymm hj
  exact Finset.mem_image.mpr ⟨⟨q.val, lt_trans (Fin.lt_def.mp hq) p.isLt⟩, Finset.mem_univ _, rfl⟩

theorem card_sorted (R : Fin n → Fin n → Bool) {k : ℕ} (hk : k ≤ n) :
    (Finset.univ.image fun p : Fin k => sortedFrom R (p.castLE hk)).card = k := by
  rw [Finset.card_image_of_injective _ (fun p q h => Fin.castLE_injective hk (sortedFrom_injective R h)),
    Finset.card_univ, Fintype.card_fin]

end Cert.Pick

end
-- ==== Proof.Spec.lean ====
/-
  The loss in plain mathematics on extended reals: one box, one prior and one decoded prediction at a time.  Both
  programs are read into these functions.
-/
module

public import Idealize.ShloMosaic.Lib.Pointwise
public import proofs.«01_k».proof.Proof.Pick

@[expose] public section

noncomputable section

open Idealize.ShloMosaic
open scoped Classical

namespace Cert.Spec

/-- The binary32 constants of the problem that the proof need not evaluate. -/
def two : EReal := Ideal.ofBits .f32 0x40000000#32
def ten : EReal := Ideal.ofBits .f32 0x41200000#32
def five : EReal := Ideal.ofBits .f32 0x40A00000#32
def eps : EReal := Ideal.ofBits .f32 0x3089705F#32
def c49 : EReal := Ideal.ofBits .f32 0x42440000#32
def c48 : EReal := Ideal.ofBits .f32 0x42400000#32

/-- The distance from the centre of the box `x` (corners) to the centre of the prior `q` (centre and size). -/
def dist (x q : Fin 4 → EReal) : EReal :=
  Ideal.sqrt ((Ideal.div (x 0 + x 2) two - q 0) * (Ideal.div (x 0 + x 2) two - q 0)
    + (Ideal.div (x 1 + x 3) two - q 1) * (Ideal.div (x 1 + x 3) two - q 1))

/-- The area two boxes share. -/
def inter (x y : Fin 4 → EReal) : EReal :=
  max 0 (min (x 2) (y 2) - max (x 0) (y 0)) * max 0 (min (x 3) (y 3) - max (x 1) (y 1))

/-- The area of a box. -/
def area (x : Fin 4 → EReal) : EReal := (x 2 - x 0) * (x 3 - x 1)

/-- The shared area of two boxes over the area of their union. -/
def iou (x y : Fin 4 → EReal) : EReal := Ideal.div (inter x y) (max eps (area x + area y - inter x y))

/-- The corners of a box given by centre and size. -/
def corners (q : Fin 4 → EReal) : Fin 4 → EReal :=
  ![q 0 - Ideal.div (q 2) two, q 1 - Ideal.div (q 3) two, q 0 + Ideal.div (q 2) two, q 1 + Ideal.div (q 3) two]

/-- The box, by centre and size, that the prediction `g` names relative to the prior `q`. -/
def decode (g q : Fin 4 → EReal) : Fin 4 → EReal :=
  ![Ideal.div (g 0 * q 2) ten + q 0, Ideal.div (g 1 * q 3) ten + q 1,
    Ideal.exp (Ideal.div (g 2) five) * q 2, Ideal.exp (Ideal.div (g 3) five) * q 3]

/-- The distance-IoU loss of a predicted box `x` against a target box `y`. -/
def loss (x y : Fin 4 → EReal) : EReal :=
  1 - iou x y + Ideal.div
    ((Ideal.div (x 0 + x 2) two - Ideal.div (y 0 + y 2) two) * (Ideal.div (x 0 + x 2) two - Ideal.div (y 0 + y 2) two)
      + (Ideal.div (x 1 + x 3) two - Ideal.div (y 1 + y 3) two) * (Ideal.div (x 1 + x 3) two - Ideal.div (y 1 + y 3) two))
    (max eps ((max (x 2) (y 2) - min (x 0) (y 0)) * (max (x 2) (y 2) - min (x 0) (y 0))
      + (max (x 3) (y 3) - min (x 1) (y 1)) * (max (x 3) (y 3) - min (x 1) (y 1))))

/-- The centre of the prior `q` lies in the box `x`. -/
def inside (x q : Fin 4 → EReal) : Prop := x 0 ≤ q 0 ∧ q 0 ≤ x 2 ∧ x 1 ≤ q 1 ∧ q 1 ≤ x 3

/-- The mean of 49 numbers. -/
def mean (f : Fin 49 → EReal) : EReal := Ideal.div (∑ k, f k) c49

/-- The threshold for 49 overlaps: their mean and one sample standard deviation above it. -/
def thr (f : Fin 49 → EReal) : EReal :=
  mean f + Ideal.sqrt (Ideal.div (∑ k, (f k - mean f) * (f k - mean f)) c48)

/-- Part of a row of 5460 numbers. -/
def slice (lo w : ℕ) (h : lo + w ≤ 5460) (d : Fin 5460 → EReal) : Fin w → EReal := fun t => d ⟨lo + t, by omega⟩

/-- The place of the `p`-th smallest of the numbers `e`, the earlier place first among equals. -/
def nth {w : ℕ} (e : Fin w → EReal) : Fin w → Fin w := sortedFrom fun a b => decide (e a < e b)

/-- 49 numbers below 5460, taken in six levels at the places the six functions give. -/
def ladder (f₁ : Fin 4096 → Fin 4096) (f₂ : Fin 1024 → Fin 1024) (f₃ : Fin 256 → Fin 256) (f₄ : Fin 64 → Fin 64)
    (f₅ : Fin 16 → Fin 16) (f₆ : Fin 4 → Fin 4) (k : Fin 49) : Fin 5460 :=
  if h : k.val < 9 then ⟨0 + (f₁ ⟨k, by omega⟩ : Fin 4096), by omega⟩
  else if h : k.val < 18 then ⟨4096 + (f₂ ⟨k - 9, by omega⟩ : Fin 1024), by omega⟩
  else if h : k.val < 27 then ⟨5120 + (f₃ ⟨k - 18, by omega⟩ : Fin 256), by omega⟩
  else if h : k.val < 36 then ⟨5376 + (f₄ ⟨k - 27, by omega⟩ : Fin 64), by omega⟩
  else if h : k.val < 45 then ⟨5440 + (f₅ ⟨k - 36, by omega⟩ : Fin 16), by omega⟩
  else ⟨5456 + (f₆ ⟨k - 45, by omega⟩ : Fin 4), by omega⟩

/-- The 49 priors nearest to a box whose distances to the priors are `d`: the nine (four) nearest of each level. -/
def near (d : Fin 5460 → EReal) : Fin 49 → Fin 5460 :=
  ladder (nth (slice 0 4096 (by omega) d)) (nth (slice 4096 1024 (by omega) d)) (nth (slice 5120 256 (by omega) d))
    (nth (slice 5376 64 (by omega) d)) (nth (slice 5440 16 (by omega) d)) (nth (slice 5456 4 (by omega) d))

/-- What the box `x` asks of a candidate prior `q`: an overlap above the threshold `t`, and its centre in the box. -/
def good (t : EReal) (x q : Fin 4 → EReal) : Prop := t < iou x (corners q) ∧ inside x q

end Cert.Spec

end
-- ==== Proof.Focal.lean ====
/-
  The focal loss of one score: the form with one exponential, by the sign of the score, and the textbook form agree on
  every extended real.
-/
module

public import proofs.«01_k».proof.Proof.Spec

@[expose] public section

noncomputable section

open Idealize.ShloMosaic

namespace Cert.Spec

/-- The weights of the focal loss. -/
def quarter : EReal := Ideal.ofBits .f32 0x3E800000#32
def threeQuarters : EReal := Ideal.ofBits .f32 0x3F400000#32

/-- The focal loss of a score `s` against a target `y`. -/
def focal (s y : EReal) : EReal :=
  (quarter * y + threeQuarters * (1 - y))
    * Ideal.pow (1 - (Ideal.div 1 (1 + Ideal.exp (-s)) * y + (1 - Ideal.div 1 (1 + Ideal.exp (-s))) * (1 - y))) two
    * (max s 0 - s * y + Ideal.log1p (Ideal.exp (-FloatOps.absf (F := Ideal) (φ := .f32) s)))

/-- The probability that a score stands for, from the exponential of minus its size. -/
def small (s : EReal) : EReal := Ideal.div 1 (1 + Ideal.exp (0 - FloatOps.absf (F := Ideal) (φ := .f32) s))

/-- The cross-entropy of a score against the target 0. -/
def entropy (s : EReal) : EReal := max s 0 + Ideal.log1p (Ideal.exp (0 - FloatOps.absf (F := Ideal) (φ := .f32) s))

/-- The focal loss against the target 1, by the sign of the score. -/
def focalHot (s : EReal) : EReal :=
  quarter * (entropy s - s) * ((if 0 ≤ s then 1 - small s else small s) * (if 0 ≤ s then 1 - small s else small s))

/-- The focal loss against the target 0, by the sign of the score. -/
def focalCold (s : EReal) : EReal :=
  threeQuarters * entropy s * ((if 0 ≤ s then small s else 1 - small s) * (if 0 ≤ s then small s else 1 - small s))

theorem quarter_eq : quarter = ((1 / 4 : ℝ) : EReal) := by
  unfold quarter
  simp [Ideal.ofBits, Ideal.ieee]
  norm_cast
  norm_num

theorem threeQuarters_eq : threeQuarters = ((3 / 4 : ℝ) : EReal) := by
  unfold threeQuarters
  simp [Ideal.ofBits, Ideal.ieee]
  norm_cast
  norm_num

theorem two_eq : two = ((2 : ℝ) : EReal) := by
  unfold two
  simp [Ideal.ofBits, Ideal.ieee]
  norm_cast
  norm_num

theorem div_one_real (x : ℝ) (h : x ≠ 0) : Ideal.div 1 (x : EReal) = ((x⁻¹ : ℝ) : EReal) := by
  unfold Ideal.div
  rw [if_neg (fun hh => h (EReal.coe_eq_zero.1 hh)), one_mul, EReal.coe_inv]

theorem pow_two_real (x : ℝ) : Ideal.pow (x : EReal) two = ((x * x : ℝ) : EReal) := by
  rw [two_eq]
  show ((Real.rpow x 2 : ℝ) : EReal) = _
  rw [Real.rpow_eq_pow, Real.rpow_two, sq]

theorem log1p_real (x : ℝ) (h : 0 < x) : Ideal.log1p (x : EReal) = ((Real.log (1 + x) : ℝ) : EReal) := by
  unfold Ideal.log1p
  rw [← EReal.coe_one, ← EReal.coe_add]
  exact if_neg (by linarith)

theorem exp_real (x : ℝ) : Ideal.exp (x : EReal) = ((Real.exp x : ℝ) : EReal) := rfl

theorem max_real (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem abs_real (x : ℝ) : FloatOps.absf (F := Ideal) (φ := .f32) (x : EReal) = ((|x| : ℝ) : EReal) := by
  show max (x : EReal) (-(x : EReal)) = _
  rw [← EReal.coe_neg, max_real]
  rfl

theorem abs_top : FloatOps.absf (F := Ideal) (φ := .f32) (⊤ : EReal) = ⊤ := by
  show max (⊤ : EReal) (-⊤) = ⊤
  simp

theorem abs_bot : FloatOps.absf (F := Ideal) (φ := .f32) (⊥ : EReal) = ⊤ := by
  show max (⊥ : EReal) (-⊥) = ⊤
  simp

theorem div_one_one : Ideal.div 1 1 = 1 := by
  have := div_one_real 1 one_ne_zero
  simpa using this

theorem log1p_zero : Ideal.log1p 0 = 0 := by
  unfold Ideal.log1p
  rw [add_zero, ← EReal.coe_one]
  show (if (1 : ℝ) ≤ 0 then (⊥ : EReal) else ((Real.log 1 : ℝ) : EReal)) = 0
  rw [if_neg (by norm_num), Real.log_one, EReal.coe_zero]

theorem exp_bot : Ideal.exp ⊥ = 0 := rfl
theorem exp_top : Ideal.exp ⊤ = ⊤ := rfl

theorem one_sub_one : (1 : EReal) - 1 = 0 := by
  rw [← EReal.coe_one, ← EReal.coe_sub, sub_self, EReal.coe_zero]

theorem pow_zero_two : Ideal.pow 0 two = 0 := by
  have := pow_two_real 0
  simpa using this

theorem pow_one_two : Ideal.pow 1 two = 1 := by
  have := pow_two_real 1
  simpa using this

theorem div_one_top : Ideal.div 1 ⊤ = 0 := by
  unfold Ideal.div
  rw [if_neg (by simp), EReal.inv_top, mul_zero]

/-- The logistic function of a real score. -/
theorem sigma_real (s : ℝ) : Ideal.div 1 (1 + Ideal.exp (-(s : EReal))) = (((1 + Real.exp (-s))⁻¹ : ℝ) : EReal) := by
  rw [← EReal.coe_neg, exp_real, ← EReal.coe_one, ← EReal.coe_add, EReal.coe_one]
  exact div_one_real _ (by positivity)

theorem small_real (s : ℝ) : small (s : EReal) = (((1 + Real.exp (-|s|))⁻¹ : ℝ) : EReal) := by
  unfold small
  rw [abs_real, zero_sub]
  exact sigma_real |s|

theorem entropy_real (s : ℝ) : entropy (s : EReal) = ((max s 0 + Real.log (1 + Real.exp (-|s|)) : ℝ) : EReal) := by
  unfold entropy
  rw [abs_real, zero_sub, ← EReal.coe_neg, exp_real, log1p_real _ (Real.exp_pos _), ← EReal.coe_zero, max_real,
    ← EReal.coe_add]

/-- One less the logistic function of `-x`. -/
theorem logistic_flip (x : ℝ) : 1 - (1 + Real.exp x)⁻¹ = (1 + Real.exp (-x))⁻¹ := by
  rw [Real.exp_neg]
  have := Real.exp_pos x
  field_simp
  ring

/-- The probability that a real score is cold, by its sign. -/
theorem cold_real (s : ℝ) :
    (if (0 : EReal) ≤ (s : EReal) then small s else 1 - small s) = (((1 + Real.exp (-s))⁻¹ : ℝ) : EReal) := by
  rw [small_real]
  by_cases h : 0 ≤ s
  · rw [if_pos (EReal.coe_nonneg.2 h), abs_of_nonneg h]
  · rw [if_neg (fun hh => h (EReal.coe_nonneg.1 hh)), abs_of_neg (not_le.1 h), neg_neg, ← EReal.coe_one, ← EReal.coe_sub,
      logistic_flip]

theorem hot_real (s : ℝ) :
    (if (0 : EReal) ≤ (s : EReal) then 1 - small s else small s) = ((1 - (1 + Real.exp (-s))⁻¹ : ℝ) : EReal) := by
  rw [small_real]
  by_cases h : 0 ≤ s
  · rw [if_pos (EReal.coe_nonneg.2 h), abs_of_nonneg h, ← EReal.coe_one, ← EReal.coe_sub]
  · rw [if_neg (fun hh => h (EReal.coe_nonneg.1 hh)), abs_of_neg (not_le.1 h), neg_neg]
    congr 1
    rw [logistic_flip, neg_neg]

/-- The two forms agree against the target 1. -/
theorem focal_hot (s : EReal) : focal s 1 = focalHot s := by
  unfold focal focalHot
  rw [one_sub_one, mul_zero, mul_zero, add_zero, add_zero, mul_one, mul_one, mul_one]
  induction s using EReal.rec with
  | bot =>
    unfold entropy small
    rw [abs_bot, EReal.neg_bot, exp_top]
    simp only [zero_sub, EReal.neg_top, exp_bot, add_zero, div_one_one, log1p_zero]
    rw [EReal.add_top_of_ne_bot (show (1 : EReal) ≠ ⊥ from EReal.coe_ne_bot 1), div_one_top, sub_zero, pow_one_two, quarter_eq]
    simp
  | top =>
    unfold entropy small
    rw [abs_top]
    simp only [zero_sub, EReal.neg_top, exp_bot, add_zero, div_one_one, log1p_zero, one_sub_one, pow_zero_two]
    simp
  | coe s =>
    rw [hot_real, sigma_real, entropy_real, abs_real, quarter_eq, ← EReal.coe_one, ← EReal.coe_sub, pow_two_real,
      ← EReal.coe_neg, exp_real, log1p_real _ (Real.exp_pos _), ← EReal.coe_zero, max_real]
    norm_cast
    ring

/-- The two forms agree against the target 0. -/
theorem focal_cold (s : EReal) : focal s 0 = focalCold s := by
  unfold focal focalCold
  rw [sub_zero, mul_zero, mul_zero, mul_zero, zero_add, zero_add, mul_one, mul_one, sub_zero]
  induction s using EReal.rec with
  | bot =>
    unfold entropy small
    rw [abs_bot, EReal.neg_bot, exp_top]
    simp only [zero_sub, EReal.neg_top, exp_bot, add_zero, div_one_one, log1p_zero]
    rw [EReal.add_top_of_ne_bot (show (1 : EReal) ≠ ⊥ from EReal.coe_ne_bot 1), div_one_top, sub_zero, one_sub_one, pow_zero_two]
    simp
  | top =>
    unfold entropy small
    rw [abs_top]
    simp only [zero_sub, EReal.neg_top, exp_bot, add_zero, div_one_one, log1p_zero, one_sub_one, sub_zero, pow_one_two]
    simp
  | coe s =>
    rw [cold_real, sigma_real, entropy_real, abs_real, threeQuarters_eq, ← EReal.coe_one, ← EReal.coe_sub, ← EReal.coe_sub,
      sub_sub_cancel, pow_two_real, ← EReal.coe_neg, exp_real, log1p_real _ (Real.exp_pos _), ← EReal.coe_zero,
      max_real]
    norm_cast
    ring

end Cert.Spec

end
-- ==== Proof.Conf.lean ====
/-
  The kernel's classification loss of one block of scores, and what a grid step adds to the result.
-/
module

public import proofs.«01_k».proof.Proof.Gen.KernelIdeal.Value
public import proofs.«01_k».proof.Proof.Focal

@[expose] public section

set_option maxRecDepth 16384

noncomputable section

open Idealize.ShloMosaic Idealize.ShloMosaic.TcCoe Idealize.SL.Sem
open Cert.KernelIdeal Cert.KernelIdeal.Gen
open scoped Classical

namespace Cert.Conf

/-- The number of a class, as a word read back. -/
theorem class_word (cl : Fin 21) : FloatOps.sitofp (F := Ideal) .f32 (BitVec.ofNat 32 cl.val) = ((cl.val : ℝ) : EReal) := by
  have hcl := cl.isLt
  show (((BitVec.ofNat 32 cl.val).toInt : ℝ) : EReal) = _
  have : (BitVec.ofNat 32 cl.val).toInt = cl.val := by
    rw [BitVec.toInt_eq_toNat_of_lt] <;> rw [BitVec.toNat_ofNat, Nat.mod_eq_of_lt (by omega)]
    omega
  rw [this, Int.cast_natCast]

/-- The classification loss of one score. -/
theorem pay119_apply (v6 : Vec Ideal S1x5460 .f32) (v7 : Vec Ideal S1x21x5460 .f32) (cl : Fin 21) (n : Fin 5460) :
    (k0_pay119 v6 v7 : Vec Ideal S21x5460 .f32) (ix2 cl n)
      = (if ((cl.val : ℝ) : EReal) = v6 (ix2 0 n) then Spec.focalHot (v7 (ix3 0 cl n)) else Spec.focalCold (v7 (ix3 0 cl n))) := by
  unfold k0_pay119
  pointwise
  rw [class_word]
  rfl

/-- What a grid step adds to the result. -/
theorem pay1_apply (v39 : Vec Ideal S21x5460 .f32) (v41 : Vec Ideal S1x1 .f32) :
    (k0_pay1 (F := Ideal) v39 v41 : FVec Ideal S1x1 .f32) (ix2 0 0)
      = v41 (ix2 0 0) + (∑ cl : Fin 21, ∑ n : Fin 5460, v39 (ix2 cl n)) * ((43680⁻¹ : ℝ) : EReal) := by
  unfold k0_pay1
  pointwise
  rw [show Named.named (F := Ideal) (φ := .f32) κ "per_prior" 0x37C00C01#32 = ((43680⁻¹ : ℝ) : EReal) from
    IdealRules.named_const.ideal_named_scalar _ _ _ _ rfl]

/-- What the last grid step adds. -/
theorem pay2_apply (v53 v55 v56 : Vec Ideal S1x1 .f32) :
    (k0_pay2 v53 v55 v56 : Vec Ideal S1x1 .f32) (ix2 0 0)
      = v53 (ix2 0 0) + Ideal.div (v55 (ix2 0 0)) (max (v56 (ix2 0 0)) 1) := by
  unfold k0_pay2
  pointwise

theorem pay117_apply (x : EReal) : (k0_pay117 (F := Ideal) x : Vec Ideal S1x1 .f32) (ix2 0 0) = x := by
  unfold k0_pay117
  pointwise

theorem pay118_apply : (k0_pay118 (F := Ideal) : Vec Ideal S1x1 .f32) (ix2 0 0) = (0 : EReal) := by
  unfold k0_pay118
  pointwise

theorem pay120_apply (x : Vec Ideal S1x1 .f32) : (k0_pay120 x : Vec Ideal S1x1 .f32) (ix2 0 0) = x (ix2 0 0) := by
  unfold k0_pay120
  pointwise

end Cert.Conf

end
-- ==== Proof.Steps.lean ====
/-
  The kernel's result after each grid step: the labels, the sum of the location losses and the number of matches
  stay what the first step stored, and each step adds its block's classification loss.
-/
module

public import proofs.«01_k».proof.Proof.Body
public import proofs.«01_k».proof.Proof.Conf

@[expose] public section

set_option maxRecDepth 16384

noncomputable section

open Idealize.ShloMosaic Idealize.ShloMosaic.TcCoe Idealize.SL.Sem
open Cert.KernelIdeal Cert.KernelIdeal.Gen
open scoped Classical

namespace Cert.Steps

variable (m : (ℓ : Loc nD τ sig) → Buf (Elt Ideal) ℓ) (c : Dev nD)

/-- The first grid step. -/
def first : Fin cfg0.N := ⟨0, lt_of_lt_of_eq (by decide) N_0.symm⟩

/-- The labels of all priors, as the first step stores them. -/
def labels : Vec Ideal S8x5460 .f32 :=
  kernelRun0_A.sl.v1013 c (ms0_1 first) (hs0_1 first) (ms0_2 first) (hs0_2 first) (ms0_3 first) (hs0_3 first)
    (iblk m c 1 first) (iblk m c 2 first) (iblk m c 3 first)

/-- The sum of the location losses, as the first step stores it. -/
def num : Vec Ideal S1x1 .f32 :=
  kernelRun0_A.sl.v1133 c (ms0_0 first) (hs0_0 first) (ms0_1 first) (hs0_1 first) (ms0_2 first) (hs0_2 first)
    (iblk m c 0 first) (iblk m c 1 first) (iblk m c 2 first)

/-- The number of matches, as the first step stores it. -/
def den : Vec Ideal S1x1 .f32 :=
  k0_pay117 (kernelRun0_A.sl.v1137 c (ms0_1 first) (hs0_1 first) (ms0_2 first) (hs0_2 first) (iblk m c 1 first) (iblk m c 2 first))

/-- The classification losses of the block of scores that a step reads. -/
def losses (t : Fin cfg0.N) : Vec Ideal S21x5460 .f32 :=
  k0_pay119 (Body.row (grid0.coords t) (labels m c)) (iblk m c 4 t)

/-- Their sum. -/
def part (n : ℕ) : EReal :=
  if hn : n < cfg0.N then ∑ cl : Fin 21, ∑ k : Fin 5460, losses m c ⟨n, hn⟩ (ix2 cl k) else 0

theorem part_eq (t : Fin cfg0.N) : part m c t.val = ∑ cl : Fin 21, ∑ k : Fin 5460, losses m c t (ix2 cl k) :=
  dif_pos t.isLt

/-- What a step before the last one leaves. -/
theorem before_last (n : ℕ) (hn : n < cfg0.N) (h7 : n < 7) :
    ((outsAt0 m c n hn).1 : Vec Ideal S1x1 .f32) (ix2 0 0) = ∑ s ∈ Finset.range (n + 1), part m c s * ((43680⁻¹ : ℝ) : EReal)
      ∧ (outsAt0 m c n hn).2 = (labels m c, num m c, den m c) := by
  induction n with
  | zero =>
    have e := outsAt0_A m c first (show 0 % 8 = 0 by decide) (show ¬0 % 8 = 7 by decide)
    rw [show outsAt0 m c 0 hn = outsAt0 m c first.val first.isLt from rfl, e]
    dsimp only
    rw [Body.labels_A, Body.num_A, Body.den_A, Body.out_A]
    refine ⟨?_, rfl⟩
    rw [Conf.pay1_apply, Conf.pay120_apply, Conf.pay118_apply, zero_add, Finset.sum_range_one, show part m c 0 = _ from part_eq m c first]
    rfl
  | succ n ih =>
    obtain ⟨i1, i2⟩ := ih (by omega) (by omega)
    have e := outsAt0_B m c ⟨n + 1, hn⟩ (by show ¬(n + 1) % 8 = 0; omega) (by show ¬(n + 1) % 8 = 7; omega)
    rw [show outsAt0 m c (n + 1) hn = outsAt0 m c (⟨n + 1, hn⟩ : Fin cfg0.N).val (⟨n + 1, hn⟩ : Fin cfg0.N).isLt from rfl, e]
    dsimp only
    simp only [Nat.add_sub_cancel]
    rw [Body.out_B]
    rw [i2]
    refine ⟨?_, rfl⟩
    rw [Conf.pay1_apply, Conf.pay120_apply, i1, Finset.sum_range_succ _ (n + 1), show part m c (n + 1) = _ from part_eq m c ⟨n + 1, hn⟩]
    rfl

/-- What the last step leaves. -/
theorem after_last (hn : 7 < cfg0.N) :
    ((outsAt0 m c 7 hn).1 : Vec Ideal S1x1 .f32) (ix2 0 0)
      = (∑ s ∈ Finset.range 8, part m c s * ((43680⁻¹ : ℝ) : EReal))
        + Ideal.div (num m c (ix2 0 0)) (max (den m c (ix2 0 0)) 1) := by
  obtain ⟨i1, i2⟩ := before_last m c 6 (by omega) (by omega)
  have e := outsAt0_C m c ⟨7, hn⟩ (show ¬7 % 8 = 0 by decide) (show 7 % 8 = 7 by decide)
  rw [show outsAt0 m c 7 hn = outsAt0 m c (⟨7, hn⟩ : Fin cfg0.N).val (⟨7, hn⟩ : Fin cfg0.N).isLt from rfl, e]
  dsimp only
  rw [Body.out_C]
  rw [show (outsAt0 m c (7 - 1) _).2 = _ from i2]
  rw [Conf.pay2_apply, Conf.pay1_apply, Conf.pay120_apply, show (outsAt0 m c (7 - 1) _).1 (ix2 0 0) = _ from i1,
    Finset.sum_range_succ _ 7, show part m c 7 = _ from part_eq m c ⟨7, hn⟩]
  rfl

end Cert.Steps

end
-- ==== Proof.Inputs.lean ====
/-
  What the kernel's blocks hold: the arguments, with their axes in the order the host program puts them in.
-/
module

public import proofs.«01_k».proof.Proof.Gen.KernelIdeal.Value
public import Idealize.ShloMosaic.Lib.Pipeline.ValueKit.Point
public import Idealize.ShloMosaic.Lib.Claim
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Inputs

variable (m : (ℓ : Loc nD τ sig) → Buf (Elt Ideal) ℓ) (c : Dev nD)

/-- Which block each input window reads at each step. -/
theorem index_at : ∀ t : Fin cfg0.N, win0_0.index t = ![0, 0, 0] ∧ win0_1.index t = ![0, 0] ∧ win0_2.index t = ![0, 0, 0]
    ∧ win0_3.index t = ![0, 0, 0] ∧ win0_4.index t = ![(grid0.coords t 0).val, 0, 0] := by decide +kernel

/-- A step's number. -/
theorem coord_at : ∀ t : Fin cfg0.N, (grid0.coords t 0).val = t.val := by decide +kernel

/-- The predicted offsets. -/
theorem preds (t : Fin cfg0.N) (b : Fin 8) (k : Fin 4) (n : Fin 5460) :
    (iblk m c 0 t : Vec Ideal S8x4x5460 .f32) (ix3 b k n) = (m ((c : Thread nD τ).loc main_arg0) : Vec Ideal S8x5460x4 .f32) (ix3 b n k) := by
  unfold iblk
  entry_read
  have e : ((win0_0.blk t).view.emb (ix3 b k n) : S8x4x5460.Idx) = ix3 b k n := by blk_ext [index_at t]
  refine (congrArg (transpose S8x4x5460 [0, 2, 1] (m ((c : Thread nD τ).loc main_arg0) : Vec Ideal S8x5460x4 .f32) transposes_S8x5460x4_S8x4x5460_0_2_1) e).trans ?_
  pointwise

/-- The priors. -/
theorem priors (t : Fin cfg0.N) (k : Fin 4) (n : Fin 5460) :
    (iblk m c 1 t : Vec Ideal S4x5460 .f32) (ix2 k n) = (m ((c : Thread nD τ).loc main_arg4) : Vec Ideal S5460x4 .f32) (ix2 n k) := by
  unfold iblk
  entry_read
  have e : ((win0_1.blk t).view.emb (ix2 k n) : S4x5460.Idx) = ix2 k n := by blk_ext [index_at t]
  refine (congrArg (transpose S4x5460 [1, 0] (m ((c : Thread nD τ).loc main_arg4) : Vec Ideal S5460x4 .f32) transposes_S5460x4_S4x5460_1_0) e).trans ?_
  pointwise

/-- The boxes. -/
theorem boxes (t : Fin cfg0.N) (b o : Fin 8) (k : Fin 4) :
    (iblk m c 2 t : Vec Ideal S8x8x4 .f32) (ix3 b o k) = (m ((c : Thread nD τ).loc main_arg2) : Vec Ideal S8x8x4 .f32) (ix3 b o k) := by
  unfold iblk
  entry_read
  blk_ext [index_at t]

/-- The boxes' classes, as numbers. -/
theorem classes (t : Fin cfg0.N) (b o : Fin 8) :
    (iblk m c 3 t : Vec Ideal S8x8x1 .f32) (ix3 b o 0)
      = ((((m ((c : Thread nD τ).loc main_arg3) : IVec S8x8 32) (ix2 b o)).toInt : ℝ) : EReal) := by
  unfold iblk
  entry_read
  have e : ((win0_3.blk t).view.emb (ix3 b o 0) : S8x8x1.Idx) = ix3 b o 0 := by blk_ext [index_at t]
  have key : ∀ f : Vec Ideal S8x8x1 .f32, View.read (Elt Ideal) ((cfg0.win 3).blk t).view f (ix3 b o 0) = f (ix3 b o 0) :=
    fun f => congrArg f e
  refine (key _).trans ?_
  pointwise
  rfl

/-- The scores: step `t` reads those of image `t`. -/
theorem scores (t : Fin cfg0.N) (cl : Fin 21) (n : Fin 5460) :
    (iblk m c 4 t : Vec Ideal S1x21x5460 .f32) (ix3 0 cl n)
      = (m ((c : Thread nD τ).loc main_arg1) : Vec Ideal S8x5460x21 .f32) (ix3 ⟨t.val, lt_of_lt_of_eq t.isLt N_0⟩ n cl) := by
  unfold iblk
  entry_read
  have e : ((win0_4.blk t).view.emb (ix3 0 cl n) : S8x21x5460.Idx) = ix3 ⟨t.val, lt_of_lt_of_eq t.isLt N_0⟩ cl n := by blk_ext [index_at t, coord_at t]
  refine (congrArg (transpose S8x21x5460 [0, 2, 1] (m ((c : Thread nD τ).loc main_arg1) : Vec Ideal S8x5460x21 .f32) transposes_S8x5460x21_S8x21x5460_0_2_1) e).trans ?_
  pointwise

end Cert.Inputs

end
-- ==== Proof.Sums.lean ====
/-
  Sums over the 49 nearest priors as sums over all priors with a mask.
-/
module

public import proofs.«01_k».proof.Proof.Spec

@[expose] public section

noncomputable section

open Idealize.ShloMosaic
open scoped Classical

namespace Cert.Spec

theorem nth_injective {w : ℕ} (e : Fin w → EReal) : Function.Injective (nth e) := sortedFrom_injective _

section
variable (f₁ : Fin 4096 → Fin 4096) (f₂ : Fin 1024 → Fin 1024) (f₃ : Fin 256 → Fin 256) (f₄ : Fin 64 → Fin 64)
    (f₅ : Fin 16 → Fin 16) (f₆ : Fin 4 → Fin 4)

/-- Where a number of the ladder comes from. -/
theorem ladder_cases (k : Fin 49) :
    (∃ t u : Fin 4096, u = f₁ t ∧ t.val + 0 = k.val ∧ (ladder f₁ f₂ f₃ f₄ f₅ f₆ k).val = 0 + u.val ∧ u.val < 4096 ∧ k.val < 9)
    ∨ (∃ t u : Fin 1024, u = f₂ t ∧ t.val + 9 = k.val ∧ (ladder f₁ f₂ f₃ f₄ f₅ f₆ k).val = 4096 + u.val ∧ u.val < 1024 ∧ k.val < 18)
    ∨ (∃ t u : Fin 256, u = f₃ t ∧ t.val + 18 = k.val ∧ (ladder f₁ f₂ f₃ f₄ f₅ f₆ k).val = 5120 + u.val ∧ u.val < 256 ∧ k.val < 27)
    ∨ (∃ t u : Fin 64, u = f₄ t ∧ t.val + 27 = k.val ∧ (ladder f₁ f₂ f₃ f₄ f₅ f₆ k).val = 5376 + u.val ∧ u.val < 64 ∧ k.val < 36)
    ∨ (∃ t u : Fin 16, u = f₅ t ∧ t.val + 36 = k.val ∧ (ladder f₁ f₂ f₃ f₄ f₅ f₆ k).val = 5440 + u.val ∧ u.val < 16 ∧ k.val < 45)
    ∨ (∃ t u : Fin 4, u = f₆ t ∧ t.val + 45 = k.val ∧ (ladder f₁ f₂ f₃ f₄ f₅ f₆ k).val = 5456 + u.val ∧ u.val < 4 ∧ k.val < 49) := by
  unfold ladder
  split
  · exact .inl ⟨⟨k - 0, by omega⟩, _, rfl, by simp only; omega, rfl, Fin.isLt _, by omega⟩
  split
  · exact .inr (.inl ⟨⟨k - 9, by omega⟩, _, rfl, by simp only; omega, rfl, Fin.isLt _, by omega⟩)
  split
  · exact .inr (.inr (.inl ⟨⟨k - 18, by omega⟩, _, rfl, by simp only; omega, rfl, Fin.isLt _, by omega⟩))
  split
  · exact .inr (.inr (.inr (.inl ⟨⟨k - 27, by omega⟩, _, rfl, by simp only; omega, rfl, Fin.isLt _, by omega⟩)))
  split
  · exact .inr (.inr (.inr (.inr (.inl ⟨⟨k - 36, by omega⟩, _, rfl, by simp only; omega, rfl, Fin.isLt _, by omega⟩))))
  · exact .inr (.inr (.inr (.inr (.inr (⟨⟨k - 45, by omega⟩, _, rfl, by simp only; omega, rfl, Fin.isLt _, by omega⟩)))))

theorem ladder_injective (i₁ : Function.Injective f₁) (i₂ : Function.Injective f₂) (i₃ : Function.Injective f₃)
    (i₄ : Function.Injective f₄) (i₅ : Function.Injective f₅) (i₆ : Function.Injective f₆) :
    Function.Injective (ladder f₁ f₂ f₃ f₄ f₅ f₆) := by
  intro k l hkl
  have h := congrArg Fin.val hkl
  have key : ∀ {w : ℕ} {f : Fin w → Fin w}, Function.Injective f → ∀ {t t' u u' : Fin w}, u = f t → u' = f t' → u.val = u'.val →
      t.val = t'.val := fun hf t t' u u' e e' h => congrArg Fin.val (hf (e.symm.trans ((Fin.ext h).trans e')))
  have hk := ladder_cases f₁ f₂ f₃ f₄ f₅ f₆ k
  have hl := ladder_cases f₁ f₂ f₃ f₄ f₅ f₆ l
  generalize (ladder f₁ f₂ f₃ f₄ f₅ f₆ k).val = a at *
  generalize (ladder f₁ f₂ f₃ f₄ f₅ f₆ l).val = b at *
  refine Fin.ext ?_
  rcases hk with ⟨t, u, e, e1, e2, e3, e4⟩ | ⟨t, u, e, e1, e2, e3, e4⟩ | ⟨t, u, e, e1, e2, e3, e4⟩ | ⟨t, u, e, e1, e2, e3, e4⟩
      | ⟨t, u, e, e1, e2, e3, e4⟩ | ⟨t, u, e, e1, e2, e3, e4⟩ <;>
    rcases hl with ⟨t', u', e', e1', e2', e3', e4'⟩ | ⟨t', u', e', e1', e2', e3', e4'⟩ | ⟨t', u', e', e1', e2', e3', e4'⟩
      | ⟨t', u', e', e1', e2', e3', e4'⟩ | ⟨t', u', e', e1', e2', e3', e4'⟩ | ⟨t', u', e', e1', e2', e3', e4'⟩ <;>
    first
    | omega
    | (have := key i₁ e e' (by omega); omega)
    | (have := key i₂ e e' (by omega); omega)
    | (have := key i₃ e e' (by omega); omega)
    | (have := key i₄ e e' (by omega); omega)
    | (have := key i₅ e e' (by omega); omega)
    | (have := key i₆ e e' (by omega); omega)

end

/-- The 49 nearest priors are different ones. -/
theorem near_injective (d : Fin 5460 → EReal) : Function.Injective (near d) :=
  ladder_injective _ _ _ _ _ _ (nth_injective _) (nth_injective _) (nth_injective _) (nth_injective _) (nth_injective _)
    (nth_injective _)

/-- A masked sum over all priors, the mask holding exactly the nearest ones, is the sum over the nearest. -/
theorem sum_near (d : Fin 5460 → EReal) (f : Fin 5460 → EReal) :
    ∑ n, f n * (if ∃ k, near d k = n then (1 : EReal) else 0) = ∑ k, f (near d k) := by
  have h1 : ∀ n, f n * (if ∃ k, near d k = n then (1 : EReal) else 0) = if n ∈ Finset.univ.image (near d) then f n else 0 := by
    intro n
    by_cases h : ∃ k, near d k = n
    · rw [if_pos h, if_pos (by simpa using h), mul_one]
    · rw [if_neg h, if_neg (by simpa using h), mul_zero]
  rw [Finset.sum_congr rfl fun n _ => h1 n, ← Finset.sum_filter, Finset.filter_mem_eq_inter, Finset.univ_inter,
    Finset.sum_image fun _ _ _ _ h => near_injective d h]

end Cert.Spec

end
-- ==== Proof.Pairs.lean ====
/-
  Masked sums over the priors as sums over the 49 nearest, and a sum of scaled parts as a scaled sum.
-/
module

public import proofs.«01_k».proof.Proof.Sums

@[expose] public section

noncomputable section

open Idealize.ShloMosaic
open scoped Classical

namespace Cert.Spec

/-- A sum over the priors that are among the nearest and have a property is the sum over the nearest that have it. -/
theorem sum_near_and (d : Fin 5460 → EReal) (f : Fin 5460 → EReal) (G : Fin 5460 → Prop) :
    ∑ n, f n * (if (∃ k, near d k = n) ∧ G n then (1 : EReal) else 0) = ∑ k, f (near d k) * (if G (near d k) then 1 else 0) := by
  rw [← sum_near d fun n => f n * (if G n then 1 else 0)]
  refine Finset.sum_congr rfl fun n _ => ?_
  by_cases h : ∃ k, near d k = n
  · by_cases hG : G n
    · rw [if_pos ⟨h, hG⟩, if_pos hG, if_pos h, mul_one, mul_one]
    · rw [if_neg fun hn => hG hn.2, if_neg hG, if_pos h, mul_one]
  · rw [if_neg fun hn => h hn.1, if_neg h, mul_zero, mul_zero]

/-- The number of priors that are among the nearest and have a property. -/
theorem count_near_and (d : Fin 5460 → EReal) (G : Fin 5460 → Prop) :
    ∑ n, (if (∃ k, near d k = n) ∧ G n then (1 : EReal) else 0) = ∑ k, (if G (near d k) then (1 : EReal) else 0) := by
  have h := sum_near_and d (fun _ => 1) G
  simpa only [one_mul] using h

/-- A sum of numbers, each times a nonnegative real, is the sum times it. -/
theorem sum_mul_real {ι : Type*} (s : Finset ι) (f : ι → EReal) (c : ℝ) (hc : 0 ≤ c) :
    ∑ i ∈ s, f i * (c : EReal) = (∑ i ∈ s, f i) * (c : EReal) := by
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- The number of scores of a class, as the reference spells it. -/
theorem count_eq : Ideal.ofBits FTy.f32 0x472AA000#32 = ((43680 : ℝ) : EReal) := by
  simp [Ideal.ofBits, Ideal.ieee]; norm_cast; norm_num

/-- To divide by that number is to multiply by its inverse. -/
theorem div_count (x : EReal) : Ideal.div x (Ideal.ofBits FTy.f32 0x472AA000#32) = x * ((43680⁻¹ : ℝ) : EReal) := by
  rw [count_eq]
  unfold Ideal.div
  rw [if_neg (by norm_cast), EReal.coe_inv]

end Cert.Spec

end
-- ==== Proof.Finite.lean ====
/-
  A distance between finite points is finite.
-/
module

public import proofs.«01_k».proof.Proof.Focal

@[expose] public section

noncomputable section

open Idealize.ShloMosaic
open scoped Classical

namespace Cert.Spec

/-- Half the sum of two real numbers is real. -/
theorem half_real (x y : ℝ) : Ideal.div ((x : EReal) + y) two = (((x + y) * 2⁻¹ : ℝ) : EReal) := by
  unfold Ideal.div
  rw [two_eq, if_neg (by norm_cast), ← EReal.coe_add, ← EReal.coe_inv, ← EReal.coe_mul]

/-- The distance of a box with finite corners to a prior with a finite centre is finite. -/
theorem dist_finite (x q : Fin 4 → EReal) (hx : ∀ k, x k ≠ ⊤ ∧ x k ≠ ⊥) (h0 : q 0 ≠ ⊤ ∧ q 0 ≠ ⊥) (h1 : q 1 ≠ ⊤ ∧ q 1 ≠ ⊥) :
    dist x q ≠ ⊤ ∧ dist x q ≠ ⊥ := by
  have e : ∀ k, x k = ((x k).toReal : EReal) := fun k => (EReal.coe_toReal (hx k).1 (hx k).2).symm
  have e0 : q 0 = ((q 0).toReal : EReal) := (EReal.coe_toReal h0.1 h0.2).symm
  have e1 : q 1 = ((q 1).toReal : EReal) := (EReal.coe_toReal h1.1 h1.2).symm
  unfold dist
  rw [e 0, e 1, e 2, e 3, e0, e1, half_real, half_real]
  simp only [← EReal.coe_sub, ← EReal.coe_mul, ← EReal.coe_add]
  generalize ((x 0).toReal + (x 2).toReal) * 2⁻¹ - (q 0).toReal = u
  generalize ((x 1).toReal + (x 3).toReal) * 2⁻¹ - (q 1).toReal = v
  have hs : Ideal.sqrt ((u * u + v * v : ℝ) : EReal) = ((Real.sqrt (u * u + v * v) : ℝ) : EReal) := by
    show (if u * u + v * v < 0 then (⊥ : EReal) else _) = _
    rw [if_neg (by nlinarith [mul_self_nonneg u, mul_self_nonneg v])]
  rw [hs]
  exact ⟨EReal.coe_ne_top _, EReal.coe_ne_bot _⟩

end Cert.Spec

end
-- ==== Proof.Words.lean ====
/-
  The kernel's first grid step, read at one box and one prior.
-/
module

public import proofs.«01_k».proof.Proof.Gen.KernelIdeal.Value
public import Idealize.ShloMosaic.Lib.Pipeline.ValueKit
public import Idealize.ShloMosaic.Lib.Pipeline.ReadBack
public import proofs.«01_k».proof.Proof.Spec

@[expose] public section

set_option maxRecDepth 16384

noncomputable section

open Idealize.ShloMosaic Idealize.ShloMosaic.TcCoe Idealize.SL.Sem
open Cert.KernelIdeal Cert.KernelIdeal.Gen
open scoped Classical

namespace Cert.Words

open kernelRun0_A

variable (c : Dev nD) (a1 : Memref sig .tc .vmem S8x4x5460 .f32) (h1 : a1.IsWhole)
  (a2 : Memref sig .tc .vmem S4x5460 .f32) (h2 : a2.IsWhole) (a3 : Memref sig .tc .vmem S8x8x4 .f32) (h3 : a3.IsWhole)
  (x0 : Vec Ideal S8x4x5460 .f32) (x1 : Vec Ideal S4x5460 .f32) (x2 : Vec Ideal S8x8x4 .f32)

/-- The prior `n` of a block of priors, transposed as the kernel holds it. -/
def prior (x1 : Vec Ideal S4x5460 .f32) (n : Fin 5460) : Fin 4 → EReal := fun k => x1 (ix2 k n)
/-- The box `o` of image `b`. -/
def box (x2 : Vec Ideal S8x8x4 .f32) (b o : Fin 8) : Fin 4 → EReal := fun k => x2 (ix3 b o k)
/-- The prediction of image `b` at prior `n`, transposed as the kernel holds it. -/
def pred (x0 : Vec Ideal S8x4x5460 .f32) (b : Fin 8) (n : Fin 5460) : Fin 4 → EReal := fun k => x0 (ix3 b k n)

theorem v55_apply (n : Fin 5460) : sl.v55 c a2 h2 x1 (ix3 0 0 n) = x1 (ix2 0 n) := by
  unfold sl.v55 sl.v54
  rw [View.readAt_eq_ld, h2.read_unread]
  pointwise

theorem v58_apply (n : Fin 5460) : sl.v58 c a2 h2 x1 (ix3 0 0 n) = x1 (ix2 1 n) := by
  unfold sl.v58 sl.v57
  rw [View.readAt_eq_ld, h2.read_unread]
  pointwise

theorem v61_apply (n : Fin 5460) : sl.v61 c a2 h2 x1 (ix3 0 0 n) = x1 (ix2 2 n) := by
  unfold sl.v61 sl.v60
  rw [View.readAt_eq_ld, h2.read_unread]
  pointwise

theorem v64_apply (n : Fin 5460) : sl.v64 c a2 h2 x1 (ix3 0 0 n) = x1 (ix2 3 n) := by
  unfold sl.v64 sl.v63
  rw [View.readAt_eq_ld, h2.read_unread]
  pointwise

theorem r_apply (b o : Fin 8) : sl.r c a3 h3 x2 (ix3 b o 0) = x2 (ix3 b o 0) := by
  unfold sl.r
  rw [View.readAt_eq_ld, h3.read_unread]
  pointwise

theorem r_1_apply (b o : Fin 8) : sl.r_1 c a3 h3 x2 (ix3 b o 0) = x2 (ix3 b o 1) := by
  unfold sl.r_1
  rw [View.readAt_eq_ld, h3.read_unread]
  pointwise

theorem r_2_apply (b o : Fin 8) : sl.r_2 c a3 h3 x2 (ix3 b o 0) = x2 (ix3 b o 2) := by
  unfold sl.r_2
  rw [View.readAt_eq_ld, h3.read_unread]
  pointwise

theorem r_3_apply (b o : Fin 8) : sl.r_3 c a3 h3 x2 (ix3 b o 0) = x2 (ix3 b o 3) := by
  unfold sl.r_3
  rw [View.readAt_eq_ld, h3.read_unread]
  pointwise

/-- The box centres. -/
theorem v71_apply (b o : Fin 8) : sl.v71 c a3 h3 x2 (ix3 b o 0) = Ideal.div (x2 (ix3 b o 0) + x2 (ix3 b o 2)) Spec.two := by
  simp only [sl.v71, sl.v70, sl.v69, sl.cst_35, View.readAt_eq_ld, h3.read_unread]
  pointwise
  rfl

theorem v74_apply (b o : Fin 8) : sl.v74 c a3 h3 x2 (ix3 b o 0) = Ideal.div (x2 (ix3 b o 1) + x2 (ix3 b o 3)) Spec.two := by
  simp only [sl.v74, sl.v72, sl.v70, sl.cst_35, View.readAt_eq_ld, h3.read_unread]
  pointwise
  rfl

/-- The distances. -/
theorem v84_apply (b o : Fin 8) (n : Fin 5460) :
    sl.v84 c a2 h2 a3 h3 x1 x2 (ix3 b o n) = Spec.dist (box x2 b o) (prior x1 n) := by
  simp only [sl.v84, sl.v83, sl.v82, sl.v81, sl.v80, sl.v79, sl.v78, sl.v77, sl.v76, sl.v75]
  pointwise
  rw [v71_apply, v74_apply, v55_apply, v58_apply]
  rfl

/-- The corners of the priors. -/
theorem v87_apply (n : Fin 5460) : sl.v87 c a2 h2 x1 (ix3 0 0 n) = Spec.corners (prior x1 n) 0 := by
  simp only [sl.v87, sl.v86, sl.v85, sl.cst_35]
  pointwise
  rw [v55_apply, v61_apply]
  rfl

theorem v90_apply (n : Fin 5460) : sl.v90 c a2 h2 x1 (ix3 0 0 n) = Spec.corners (prior x1 n) 1 := by
  simp only [sl.v90, sl.v89, sl.v85, sl.cst_35]
  pointwise
  rw [v58_apply, v64_apply]
  rfl

theorem v93_apply (n : Fin 5460) : sl.v93 c a2 h2 x1 (ix3 0 0 n) = Spec.corners (prior x1 n) 2 := by
  simp only [sl.v93, sl.v86, sl.v85, sl.cst_35]
  pointwise
  rw [v55_apply, v61_apply]
  rfl

theorem v96_apply (n : Fin 5460) : sl.v96 c a2 h2 x1 (ix3 0 0 n) = Spec.corners (prior x1 n) 3 := by
  simp only [sl.v96, sl.v89, sl.v85, sl.cst_35]
  pointwise
  rw [v58_apply, v64_apply]
  rfl

/-- The overlap of a box and a prior. -/
theorem v128_apply (b o : Fin 8) (n : Fin 5460) :
    sl.v128 c a2 h2 a3 h3 x1 x2 (ix3 b o n) = Spec.iou (box x2 b o) (Spec.corners (prior x1 n)) := by
  simp only [sl.v128, sl.v127, sl.v126, sl.v125, sl.v124, sl.v123, sl.v122, sl.v121, sl.v120, sl.v119, sl.v118, sl.v117,
    sl.v116, sl.v115, sl.v114, sl.v112, sl.v111, sl.v110, sl.v109, sl.v108, sl.v107, sl.v106, sl.v105, sl.v104, sl.v103,
    sl.v102, sl.v101, sl.v100, sl.v99, sl.v98, sl.v97, sl.cst_41, sl.cst_43]
  pointwise
  rw [r_apply, r_1_apply, r_2_apply, r_3_apply, v87_apply, v90_apply, v93_apply, v96_apply]
  rfl

end Cert.Words

end
-- ==== Proof.Round.lean ====
/-
  One ROUND of the kernel's selection, read on a row. The kernel keeps a stack of 8 × 8 rows of keys. In a round it takes
  each row's minimum, looks for the lowest position at which the row equals its minimum, and overwrites that position with
  +∞. On every row this is `Pick.round`.
-/
module

public import proofs.«01_k».proof.Proof.Pick
public import Idealize.ShloMosaic.Lib.SortNet.Extract
public import Idealize.ShloMosaic.Lib.Pipeline.Value
public import Idealize.ShloMosaic.Lib.Pointwise
public import Idealize.ShloMosaic.PureOps.Ideal.Laws

@[expose] public section

noncomputable section

open Idealize.ShloMosaic

namespace Cert.Pick

/-- What a fold of the signed minimum is: below the starting value and every member, and one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => simp
  | insert a s has ih =>
    obtain ⟨h1, h2, h3⟩ := ih
    rw [Finset.fold_insert has]
    have hm := SortNet.toInt_minsi (g a) (s.fold IntOp.minsi init g)
    refine ⟨by rw [hm]; exact le_trans (min_le_right _ _) h1, fun i hi => ?_, ?_⟩
    · rw [hm]
      rcases Finset.mem_insert.mp hi with rfl | hi
      · exact min_le_left _ _
      · exact le_trans (min_le_right _ _) (h2 i hi)
    · have h4 : ∀ x y : BitVec 32, IntOp.minsi x y = x ∨ IntOp.minsi x y = y := fun x y => by
        unfold IntOp.minsi; split <;> simp
      rcases h4 (g a) (s.fold IntOp.minsi init g) with e | e
      · exact .inr ⟨a, Finset.mem_insert_self _ _, e⟩
      · rw [e]
        rcases h3 with h3 | ⟨i, hi, h3⟩
        · exact .inl h3
        · exact .inr ⟨i, Finset.mem_insert_of_mem hi, h3⟩

/-- The number of a position of a row of at most 2^30 keys, read back from its word. -/
theorem toInt_pos {W : ℕ} (hW : W ≤ 2 ^ 30) (n : Fin W) : (BitVec.ofNat 32 n.val).toInt = (n.val : ℤ) := by
  have := n.isLt
  rw [BitVec.toInt_eq_toNat_cond, BitVec.toNat_ofNat, Nat.mod_eq_of_lt (by omega), if_pos (by omega)]

/-- A round on one row, as the kernel computes it: the position found is the lowest one at which the row is its minimum. -/
theorem round_row {W : ℕ} (hW : W ≤ 2 ^ 30) (d : Fin W → EReal) (n : Fin W) :
    (BitVec.ofNat 32 n.val = (Finset.univ : Finset (Fin W)).fold IntOp.minsi 2147483647#32
      (fun k => if d k = (Finset.univ : Finset (Fin W)).fold min ⊤ d then BitVec.ofNat 32 k.val else 1073741824#32)) ↔ IsFirst d n := by
  set M := (Finset.univ : Finset (Fin W)).fold min ⊤ d with hM
  have hMle : ∀ k, M ≤ d k := fun k => (Finset.le_fold_min M).mp (le_of_eq hM) |>.2 k (Finset.mem_univ k)
  have hMge : ∀ c, (∀ k, c ≤ d k) → c ≤ M := fun c hc => (Finset.le_fold_min c).mpr ⟨le_top, fun k _ => hc k⟩
  set g : Fin W → BitVec 32 := fun k => if d k = M then BitVec.ofNat 32 k.val else 1073741824#32 with hg
  obtain ⟨h1, h2, h3⟩ := fold_minsi_spec g Finset.univ 2147483647#32
  set J := (Finset.univ : Finset (Fin W)).fold IntOp.minsi 2147483647#32 g with hJ
  have hn := n.isLt
  have hin : (2147483647#32).toInt = 2147483647 := by decide
  have hbig : (1073741824#32).toInt = 1073741824 := by decide
  constructor
  · intro e
    have eJ : J.toInt = (n.val : ℤ) := by rw [← e, toInt_pos hW]
    have hdn : d n = M := by
      rcases h3 with h3 | ⟨i, _, h3⟩
      · rw [h3, hin] at eJ; omega
      · rw [h3] at eJ
        simp only [hg] at eJ
        by_cases hi : d i = M
        · rw [if_pos hi, toInt_pos hW] at eJ
          have : i = n := Fin.ext (by omega)
          exact this ▸ hi
        · rw [if_neg hi, hbig] at eJ; omega
    intro j hj
    rcases lt_or_eq_of_le (hMle j) with hl | hl
    · exact .inl (hdn ▸ hl)
    · refine .inr ⟨hdn.trans hl, ?_⟩
      have := h2 j (Finset.mem_univ j)
      simp only [hg] at this
      rw [if_pos hl.symm, toInt_pos hW, eJ] at this
      exact lt_of_le_of_ne (by exact_mod_cast this) (fun e => hj e.symm)
  · intro hf
    have hle : ∀ k, d n ≤ d k := fun k => by
      by_cases e : k = n
      · rw [e]
      · rcases hf k e with h | h
        · exact h.le
        · exact h.1.le
    have hdn : d n = M := le_antisymm (hMge _ hle) (hMle n)
    have hup : J.toInt ≤ n.val := by
      have := h2 n (Finset.mem_univ n)
      simp only [hg] at this
      rwa [if_pos hdn, toInt_pos hW] at this
    have hlo : (n.val : ℤ) ≤ J.toInt := by
      rcases h3 with h3 | ⟨i, _, h3⟩
      · rw [h3, hin]; omega
      · rw [h3]
        simp only [hg]
        by_cases hi : d i = M
        · rw [if_pos hi, toInt_pos hW]
          by_cases e : i = n
          · rw [e]
          · rcases hf i e with h | h
            · exact absurd h (by rw [hdn, hi]; exact lt_irrefl _)
            · exact_mod_cast h.2.le
        · rw [if_neg hi, hbig]; omega
    apply BitVec.eq_of_toInt_eq
    rw [toInt_pos hW]
    omega

/-- The word of +∞. -/
theorem ofBits_top : (FloatOps.ofBits (F := Ideal) .f32 0x7F800000#32 : EReal) = ⊤ := by
  show Ideal.ofBits .f32 0x7F800000#32 = ⊤
  simp [Ideal.ofBits, Ideal.ieee]

section Stack

variable {W : ℕ} (hr : Shape.Reduces ⟨3, ![8, 8, W]⟩ [2] ⟨2, ![8, 8]⟩)
  (hc : Shape.ShapeCasts ⟨2, ![8, 8]⟩ ⟨3, ![8, 8, 1]⟩) (hb : Shape.Broadcasts ⟨3, ![8, 8, 1]⟩ ⟨3, ![8, 8, W]⟩)
  (hi : Shape.Broadcasts ⟨3, ![1, 1, W]⟩ ⟨3, ![8, 8, W]⟩)
  (hs : Shape.ShapeCasts ⟨3, ![1, 1, W]⟩ ⟨3, ![1, 1, W]⟩)

/-- Each row's minimum. -/
def rowMin (d : FVec Ideal ⟨3, ![8, 8, W]⟩ .f32) : FVec Ideal ⟨2, ![8, 8]⟩ .f32 :=
  multiReduction .minimumf [2] ⟨2, ![8, 8]⟩ d 0x7F800000#32 hr (.inl rfl) rfl

/-- The number of the lowest position at which each row equals its minimum. -/
def rowPos (io : IVec ⟨3, ![1, 1, W]⟩ 32) (d : FVec Ideal ⟨3, ![8, 8, W]⟩ .f32) : IVec ⟨2, ![8, 8]⟩ 32 :=
  multiReductionI .minsi [2] ⟨2, ![8, 8]⟩
    (select (cmpf .oeq d (broadcastTo ⟨3, ![8, 8, W]⟩ (shapeCast ⟨3, ![8, 8, 1]⟩ (rowMin hr d) hc) hb))
      (broadcastTo ⟨3, ![8, 8, W]⟩ (shapeCast ⟨3, ![1, 1, W]⟩ io hs) hi)
      (broadcast ⟨3, ![8, 8, W]⟩ 1073741824#32))
    2147483647#32 hr rfl

/-- A round on the whole stack of rows, in the kernel's operations; `io` holds each position's number. -/
def roundV (io : IVec ⟨3, ![1, 1, W]⟩ 32) (d : FVec Ideal ⟨3, ![8, 8, W]⟩ .f32) : FVec Ideal ⟨3, ![8, 8, W]⟩ .f32 :=
  select
    (cmpi .eq (broadcastTo ⟨3, ![8, 8, W]⟩ io hi)
      (broadcastTo ⟨3, ![8, 8, W]⟩ (shapeCast ⟨3, ![8, 8, 1]⟩ (rowPos hr hc hb hi hs io d) hc) hb))
    (broadcast ⟨3, ![8, 8, W]⟩ (FloatOps.ofBits .f32 0x7F800000#32)) d

theorem lift_row (a b : Fin 8) (k : Fin W) : hr.lift (ix2 a b) k = ix3 a b k := by
  funext x; match x with | ⟨0, _⟩ => rfl | ⟨1, _⟩ => rfl | ⟨2, _⟩ => rfl

theorem column_apply {α : Type} (v : (⟨2, ![8, 8]⟩ : Shape).Idx → α) (a b : Fin 8) (n : Fin W) :
    broadcastTo ⟨3, ![8, 8, W]⟩ (shapeCast ⟨3, ![8, 8, 1]⟩ v hc) hb (ix3 a b n) = v (ix2 a b) := by
  rw [broadcastTo_apply _ hb (ix3 a b n) (ix3 a b 0) (by
    intro x; match x with | ⟨0, _⟩ => rfl | ⟨1, _⟩ => rfl | ⟨2, _⟩ => rfl)]
  exact shapeCast_apply _ _ _ _ (by
    rw [Shape.rowMajor_val_two, Shape.rowMajor_val_three]; simp)

theorem numbers_apply {α : Type} (io : (⟨3, ![1, 1, W]⟩ : Shape).Idx → α) (a b : Fin 8) (n : Fin W) :
    broadcastTo ⟨3, ![8, 8, W]⟩ io hi (ix3 a b n) = io (ix3 0 0 n) :=
  broadcastTo_apply _ hi (ix3 a b n) (ix3 0 0 n) (by
    intro x
    match x with
    | ⟨0, _⟩ => rfl
    | ⟨1, _⟩ => rfl
    | ⟨2, _⟩ =>
      show n.val = if W = 1 then 0 else n.val
      have := n.isLt
      split <;> omega)

theorem rowMin_apply (d : FVec Ideal ⟨3, ![8, 8, W]⟩ .f32) (a b : Fin 8) :
    rowMin hr d (ix2 a b) = (Finset.univ : Finset (Fin W)).fold min ⊤ (fun k => d (ix3 a b k)) := by
  unfold rowMin
  refine (multiReduction_minimumf_eq_fold _ _ hr _ _ _).trans ((hr.fold_filter_drop_single _ _ d (ix2 a b)).trans ?_)
  rw [show (FloatOps.ofBits (F := Ideal) .f32 0x7F800000#32) = (⊤ : EReal) from ofBits_top]
  exact Finset.fold_congr fun k _ => congrArg d (lift_row hr a b k)

theorem rowPos_apply (io : IVec ⟨3, ![1, 1, W]⟩ 32) (hio : ∀ n : Fin W, io (ix3 0 0 n) = BitVec.ofNat 32 n.val)
    (d : FVec Ideal ⟨3, ![8, 8, W]⟩ .f32) (a b : Fin 8) :
    rowPos hr hc hb hi hs io d (ix2 a b) = (Finset.univ : Finset (Fin W)).fold IntOp.minsi 2147483647#32
      (fun k => if d (ix3 a b k) = (Finset.univ : Finset (Fin W)).fold min ⊤ (fun k => d (ix3 a b k))
        then BitVec.ofNat 32 k.val else 1073741824#32) := by
  unfold rowPos
  refine (multiReductionI_eq_fold _ _ _ hr _ _).trans ((hr.fold_filter_drop_single _ _ _ (ix2 a b)).trans ?_)
  refine Finset.fold_congr fun (k : Fin W) _ => ?_
  have hk := lift_row hr a b (k : Fin W)
  show (select (cmpf .oeq d (broadcastTo ⟨3, ![8, 8, W]⟩ (shapeCast ⟨3, ![8, 8, 1]⟩ (rowMin hr d) hc) hb))
      (broadcastTo ⟨3, ![8, 8, W]⟩ (shapeCast ⟨3, ![1, 1, W]⟩ io hs) hi)
      (broadcast ⟨3, ![8, 8, W]⟩ 1073741824#32)) (hr.lift (ix2 a b) (k : Fin W)) = _
  rw [hk]
  show Scalar.select (Ideal.cmp .oeq (d (ix3 a b k))
      (broadcastTo ⟨3, ![8, 8, W]⟩ (shapeCast ⟨3, ![8, 8, 1]⟩ (rowMin hr d) hc) hb (ix3 a b k)))
      (broadcastTo ⟨3, ![8, 8, W]⟩ (shapeCast ⟨3, ![1, 1, W]⟩ io hs) hi (ix3 a b k)) 1073741824#32 = _
  unfold Scalar.select
  rw [column_apply, rowMin_apply, shapeCast_self, numbers_apply, hio]
  by_cases h : d (ix3 a b k) = (Finset.univ : Finset (Fin W)).fold min ⊤ (fun k => d (ix3 a b k))
  · rw [if_pos h, if_pos]; simp [Ideal.cmp, h]
  · rw [if_neg h, if_neg]
    simp [Ideal.cmp, h]

/-- A round on the stack is a round on each of its rows. -/
theorem roundV_apply (hW : W ≤ 2 ^ 30) (io : IVec ⟨3, ![1, 1, W]⟩ 32) (hio : ∀ n : Fin W, io (ix3 0 0 n) = BitVec.ofNat 32 n.val)
    (d : FVec Ideal ⟨3, ![8, 8, W]⟩ .f32) (a b : Fin 8) (n : Fin W) :
    roundV hr hc hb hi hs io d (ix3 a b n) = round (fun k : Fin W => d (ix3 a b k)) n := by
  show (if (BitVec.ofBool (broadcastTo ⟨3, ![8, 8, W]⟩ io hi (ix3 a b n) == broadcastTo ⟨3, ![8, 8, W]⟩
    (shapeCast ⟨3, ![8, 8, 1]⟩ (rowPos hr hc hb hi hs io d) hc) hb (ix3 a b n))) = 1#1 then
      FloatOps.ofBits (F := Ideal) .f32 0x7F800000#32 else _) = _
  rw [numbers_apply, hio, column_apply, rowPos_apply _ _ _ _ _ io hio, ofBits_top]
  have := round_row hW (fun k => d (ix3 a b k)) n
  unfold round
  by_cases h : IsFirst (fun k : Fin W => d (ix3 a b k)) n
  · rw [if_pos h, if_pos]
    rw [← this.mpr h]; simp
  · rw [if_neg h, if_neg]
    have h' := mt this.mp h
    rw [show (BitVec.ofNat 32 n.val == _) = false from beq_eq_false_iff_ne.mpr h']
    decide

/-- Rounds on the stack are rounds on each of its rows. -/
theorem roundV_iterate (hW : W ≤ 2 ^ 30) (io : IVec ⟨3, ![1, 1, W]⟩ 32) (hio : ∀ n : Fin W, io (ix3 0 0 n) = BitVec.ofNat 32 n.val)
    (d : FVec Ideal ⟨3, ![8, 8, W]⟩ .f32) (a b : Fin 8) (k : ℕ) (n : Fin W) :
    (roundV hr hc hb hi hs io)^[k] d (ix3 a b n) = round^[k] (fun k : Fin W => d (ix3 a b k)) n := by
  induction k generalizing n with
  | zero => rfl
  | succ k ih =>
    rw [Function.iterate_succ_apply', Function.iterate_succ_apply', roundV_apply _ _ _ _ _ hW io hio]
    exact congrArg (fun f => round f n) (funext ih)

end Stack

end Cert.Pick
-- ==== Proof.Chains.lean ====
/-
  The kernel's rounds of overwriting, level by level: each level's row after its last round is the round iterated on the
  level's row of distances.
-/
module

public import proofs.«01_k».proof.Proof.Words
public import proofs.«01_k».proof.Proof.Round

@[expose] public section

set_option maxRecDepth 16384

noncomputable section

open Idealize.ShloMosaic Idealize.ShloMosaic.TcCoe Idealize.SL.Sem
open Cert.KernelIdeal Cert.KernelIdeal.Gen Cert.Pick

namespace Cert.Words

open kernelRun0_A

variable (c : Dev nD) (a2 : Memref sig .tc .vmem S4x5460 .f32) (h2 : a2.IsWhole)
  (a3 : Memref sig .tc .vmem S8x8x4 .f32) (h3 : a3.IsWhole)
  (x1 : Vec Ideal S4x5460 .f32) (x2 : Vec Ideal S8x8x4 .f32)

theorem iterate_9 {α : Type} (f : α → α) (x : α) : f^[9] x = f (f (f (f (f (f (f (f (f x)))))))) := rfl
theorem iterate_4 {α : Type} (f : α → α) (x : α) : f^[4] x = f (f (f (f x))) := rfl

/-- A round on the rows of 4096 distances. -/
abbrev R4096 : FVec Ideal S8x8x4096 .f32 → FVec Ideal S8x8x4096 .f32 :=
  roundV reduces_S8x8x4096_S8x8 shapeCasts_S8x8_S8x8x1 broadcasts_S8x8x1_S8x8x4096 broadcasts_S1x1x4096_S8x8x4096
    shapeCasts_S1x1x4096_S1x1x4096 sl.v130

theorem chainA : sl.v865 c a2 h2 a3 h3 x1 x2 = R4096^[9] (sl.v139 c a2 h2 a3 h3 x1 x2) := by
  have e1 : sl.v205 c a2 h2 a3 h3 x1 x2 = R4096 (sl.v139 c a2 h2 a3 h3 x1 x2) := rfl
  have e2 : sl.v295 c a2 h2 a3 h3 x1 x2 = R4096 (sl.v205 c a2 h2 a3 h3 x1 x2) := rfl
  have e3 : sl.v385 c a2 h2 a3 h3 x1 x2 = R4096 (sl.v295 c a2 h2 a3 h3 x1 x2) := rfl
  have e4 : sl.v475 c a2 h2 a3 h3 x1 x2 = R4096 (sl.v385 c a2 h2 a3 h3 x1 x2) := rfl
  have e5 : sl.v565 c a2 h2 a3 h3 x1 x2 = R4096 (sl.v475 c a2 h2 a3 h3 x1 x2) := rfl
  have e6 : sl.v640 c a2 h2 a3 h3 x1 x2 = R4096 (sl.v565 c a2 h2 a3 h3 x1 x2) := rfl
  have e7 : sl.v715 c a2 h2 a3 h3 x1 x2 = R4096 (sl.v640 c a2 h2 a3 h3 x1 x2) := rfl
  have e8 : sl.v790 c a2 h2 a3 h3 x1 x2 = R4096 (sl.v715 c a2 h2 a3 h3 x1 x2) := rfl
  have e9 : sl.v865 c a2 h2 a3 h3 x1 x2 = R4096 (sl.v790 c a2 h2 a3 h3 x1 x2) := rfl
  rw [e9, e8, e7, e6, e5, e4, e3, e2, e1, iterate_9]

/-- A round on the rows of 1024 distances. -/
abbrev R1024 : FVec Ideal S8x8x1024 .f32 → FVec Ideal S8x8x1024 .f32 :=
  roundV reduces_S8x8x1024_S8x8 shapeCasts_S8x8_S8x8x1 broadcasts_S8x8x1_S8x8x1024 broadcasts_S1x1x1024_S8x8x1024
    shapeCasts_S1x1x1024_S1x1x1024 sl.v141

theorem chainB : sl.v880 c a2 h2 a3 h3 x1 x2 = R1024^[9] (sl.v150 c a2 h2 a3 h3 x1 x2) := by
  have e1 : sl.v220 c a2 h2 a3 h3 x1 x2 = R1024 (sl.v150 c a2 h2 a3 h3 x1 x2) := rfl
  have e2 : sl.v310 c a2 h2 a3 h3 x1 x2 = R1024 (sl.v220 c a2 h2 a3 h3 x1 x2) := rfl
  have e3 : sl.v400 c a2 h2 a3 h3 x1 x2 = R1024 (sl.v310 c a2 h2 a3 h3 x1 x2) := rfl
  have e4 : sl.v490 c a2 h2 a3 h3 x1 x2 = R1024 (sl.v400 c a2 h2 a3 h3 x1 x2) := rfl
  have e5 : sl.v580 c a2 h2 a3 h3 x1 x2 = R1024 (sl.v490 c a2 h2 a3 h3 x1 x2) := rfl
  have e6 : sl.v655 c a2 h2 a3 h3 x1 x2 = R1024 (sl.v580 c a2 h2 a3 h3 x1 x2) := rfl
  have e7 : sl.v730 c a2 h2 a3 h3 x1 x2 = R1024 (sl.v655 c a2 h2 a3 h3 x1 x2) := rfl
  have e8 : sl.v805 c a2 h2 a3 h3 x1 x2 = R1024 (sl.v730 c a2 h2 a3 h3 x1 x2) := rfl
  have e9 : sl.v880 c a2 h2 a3 h3 x1 x2 = R1024 (sl.v805 c a2 h2 a3 h3 x1 x2) := rfl
  rw [e9, e8, e7, e6, e5, e4, e3, e2, e1, iterate_9]

/-- A round on the rows of 256 distances. -/
abbrev R256 : FVec Ideal S8x8x256 .f32 → FVec Ideal S8x8x256 .f32 :=
  roundV reduces_S8x8x256_S8x8 shapeCasts_S8x8_S8x8x1 broadcasts_S8x8x1_S8x8x256 broadcasts_S1x1x256_S8x8x256
    shapeCasts_S1x1x256_S1x1x256 sl.v152

theorem chainC : sl.v895 c a2 h2 a3 h3 x1 x2 = R256^[9] (sl.v161 c a2 h2 a3 h3 x1 x2) := by
  have e1 : sl.v235 c a2 h2 a3 h3 x1 x2 = R256 (sl.v161 c a2 h2 a3 h3 x1 x2) := rfl
  have e2 : sl.v325 c a2 h2 a3 h3 x1 x2 = R256 (sl.v235 c a2 h2 a3 h3 x1 x2) := rfl
  have e3 : sl.v415 c a2 h2 a3 h3 x1 x2 = R256 (sl.v325 c a2 h2 a3 h3 x1 x2) := rfl
  have e4 : sl.v505 c a2 h2 a3 h3 x1 x2 = R256 (sl.v415 c a2 h2 a3 h3 x1 x2) := rfl
  have e5 : sl.v595 c a2 h2 a3 h3 x1 x2 = R256 (sl.v505 c a2 h2 a3 h3 x1 x2) := rfl
  have e6 : sl.v670 c a2 h2 a3 h3 x1 x2 = R256 (sl.v595 c a2 h2 a3 h3 x1 x2) := rfl
  have e7 : sl.v745 c a2 h2 a3 h3 x1 x2 = R256 (sl.v670 c a2 h2 a3 h3 x1 x2) := rfl
  have e8 : sl.v820 c a2 h2 a3 h3 x1 x2 = R256 (sl.v745 c a2 h2 a3 h3 x1 x2) := rfl
  have e9 : sl.v895 c a2 h2 a3 h3 x1 x2 = R256 (sl.v820 c a2 h2 a3 h3 x1 x2) := rfl
  rw [e9, e8, e7, e6, e5, e4, e3, e2, e1, iterate_9]

/-- A round on the rows of 84 distances. -/
abbrev R84 : FVec Ideal S8x8x84 .f32 → FVec Ideal S8x8x84 .f32 :=
  roundV reduces_S8x8x84_S8x8 shapeCasts_S8x8_S8x8x1 broadcasts_S8x8x1_S8x8x84 broadcasts_S1x1x84_S8x8x84
    shapeCasts_S1x1x84_S1x1x84 sl.v163

theorem chainD : sl.v910 c a2 h2 a3 h3 x1 x2 = R84^[9] (sl.v172 c a2 h2 a3 h3 x1 x2) := by
  have e1 : sl.v250 c a2 h2 a3 h3 x1 x2 = R84 (sl.v172 c a2 h2 a3 h3 x1 x2) := rfl
  have e2 : sl.v340 c a2 h2 a3 h3 x1 x2 = R84 (sl.v250 c a2 h2 a3 h3 x1 x2) := rfl
  have e3 : sl.v430 c a2 h2 a3 h3 x1 x2 = R84 (sl.v340 c a2 h2 a3 h3 x1 x2) := rfl
  have e4 : sl.v520 c a2 h2 a3 h3 x1 x2 = R84 (sl.v430 c a2 h2 a3 h3 x1 x2) := rfl
  have e5 : sl.v610 c a2 h2 a3 h3 x1 x2 = R84 (sl.v520 c a2 h2 a3 h3 x1 x2) := rfl
  have e6 : sl.v685 c a2 h2 a3 h3 x1 x2 = R84 (sl.v610 c a2 h2 a3 h3 x1 x2) := rfl
  have e7 : sl.v760 c a2 h2 a3 h3 x1 x2 = R84 (sl.v685 c a2 h2 a3 h3 x1 x2) := rfl
  have e8 : sl.v835 c a2 h2 a3 h3 x1 x2 = R84 (sl.v760 c a2 h2 a3 h3 x1 x2) := rfl
  have e9 : sl.v910 c a2 h2 a3 h3 x1 x2 = R84 (sl.v835 c a2 h2 a3 h3 x1 x2) := rfl
  rw [e9, e8, e7, e6, e5, e4, e3, e2, e1, iterate_9]

theorem chainE : sl.v925 c a2 h2 a3 h3 x1 x2 = R84^[9] (sl.v181 c a2 h2 a3 h3 x1 x2) := by
  have e1 : sl.v265 c a2 h2 a3 h3 x1 x2 = R84 (sl.v181 c a2 h2 a3 h3 x1 x2) := rfl
  have e2 : sl.v355 c a2 h2 a3 h3 x1 x2 = R84 (sl.v265 c a2 h2 a3 h3 x1 x2) := rfl
  have e3 : sl.v445 c a2 h2 a3 h3 x1 x2 = R84 (sl.v355 c a2 h2 a3 h3 x1 x2) := rfl
  have e4 : sl.v535 c a2 h2 a3 h3 x1 x2 = R84 (sl.v445 c a2 h2 a3 h3 x1 x2) := rfl
  have e5 : sl.v625 c a2 h2 a3 h3 x1 x2 = R84 (sl.v535 c a2 h2 a3 h3 x1 x2) := rfl
  have e6 : sl.v700 c a2 h2 a3 h3 x1 x2 = R84 (sl.v625 c a2 h2 a3 h3 x1 x2) := rfl
  have e7 : sl.v775 c a2 h2 a3 h3 x1 x2 = R84 (sl.v700 c a2 h2 a3 h3 x1 x2) := rfl
  have e8 : sl.v850 c a2 h2 a3 h3 x1 x2 = R84 (sl.v775 c a2 h2 a3 h3 x1 x2) := rfl
  have e9 : sl.v925 c a2 h2 a3 h3 x1 x2 = R84 (sl.v850 c a2 h2 a3 h3 x1 x2) := rfl
  rw [e9, e8, e7, e6, e5, e4, e3, e2, e1, iterate_9]

theorem chainF : sl.v550 c a2 h2 a3 h3 x1 x2 = R84^[4] (sl.v190 c a2 h2 a3 h3 x1 x2) := by
  have e1 : sl.v280 c a2 h2 a3 h3 x1 x2 = R84 (sl.v190 c a2 h2 a3 h3 x1 x2) := rfl
  have e2 : sl.v370 c a2 h2 a3 h3 x1 x2 = R84 (sl.v280 c a2 h2 a3 h3 x1 x2) := rfl
  have e3 : sl.v460 c a2 h2 a3 h3 x1 x2 = R84 (sl.v370 c a2 h2 a3 h3 x1 x2) := rfl
  have e4 : sl.v550 c a2 h2 a3 h3 x1 x2 = R84 (sl.v460 c a2 h2 a3 h3 x1 x2) := rfl
  rw [e4, e3, e2, e1, iterate_4]

end Cert.Words

end
-- ==== Proof.Level.lean ====
/-
  One level of the selection: after `k` rounds, the positions that read +∞ are those of the `k` smallest distances.
-/
module

public import proofs.«01_k».proof.Proof.Spec
public import proofs.«01_k».proof.Proof.Round

@[expose] public section

noncomputable section

open Idealize.ShloMosaic
open scoped Classical

namespace Cert.Pick

/-- A round leaves a key or makes it +∞. -/
theorem rounds_or {n : ℕ} (d : Fin n → EReal) (k : ℕ) (i : Fin n) : round^[k] d i = ⊤ ∨ round^[k] d i = d i := by
  induction k with
  | zero => exact .inr rfl
  | succ k ih =>
    rw [Function.iterate_succ_apply']
    unfold round
    split
    · exact .inl rfl
    · exact ih

/-- Among the positions `e` of a row whose other positions hold +∞, those made +∞ by `k` rounds are the `k` nearest. -/
theorem level_row {n m k : ℕ} (d : Fin n → EReal) (e : Fin m → Fin n) (he : StrictMono e) (ht : ∀ t, d (e t) ≠ ⊤)
    (hb : ∀ t, d (e t) ≠ ⊥) (hout : ∀ i, (∀ t, e t ≠ i) → d i = ⊤) (hk : k ≤ m) (t : Fin m) :
    max (round^[k] d (e t)) (-(round^[k] d (e t))) = ⊤
      ↔ ∃ p : Fin k, Spec.nth (fun t => d (e t)) (p.castLE hk) = t := by
  have hR : ∀ a b : Fin m, decide (d (e a) < d (e b)) = true ↔ d (e a) < d (e b) := fun a b => decide_eq_true_iff
  have h := rounds_eq_top_iff d e he (fun t => lt_top_iff_ne_top.mpr (ht t)) hout _
    (down_sorted (fun t => d (e t)) _ hR hk) t
  rw [card_sorted _ hk] at h
  have h1 : max (round^[k] d (e t)) (-(round^[k] d (e t))) = ⊤ ↔ round^[k] d (e t) = ⊤ := by
    rw [max_eq_top]
    constructor
    · rintro (h | h)
      · exact h
      · rcases rounds_or d k (e t) with h' | h'
        · exact h'
        · rw [h', EReal.neg_eq_top_iff] at h
          exact absurd h (hb t)
    · exact .inl
  rw [h1, h, Finset.mem_image]
  simp only [Finset.mem_univ, true_and]
  rfl

section
variable {W : ℕ} (hr : Shape.Reduces ⟨3, ![8, 8, W]⟩ [2] ⟨2, ![8, 8]⟩)
  (hc : Shape.ShapeCasts ⟨2, ![8, 8]⟩ ⟨3, ![8, 8, 1]⟩) (hb : Shape.Broadcasts ⟨3, ![8, 8, 1]⟩ ⟨3, ![8, 8, W]⟩)
  (hi : Shape.Broadcasts ⟨3, ![1, 1, W]⟩ ⟨3, ![8, 8, W]⟩)
  (hs : Shape.ShapeCasts ⟨3, ![1, 1, W]⟩ ⟨3, ![1, 1, W]⟩)

/-- A level in the kernel's operations: the level's part of a row of distances holds the numbers `x`, the rest +∞;
    the position `n` is taken after `k` rounds exactly when it holds one of the `k` smallest. -/
theorem level_vec {m k lo : ℕ} (hlo : lo + m ≤ W) (hk : k ≤ m) (hW : W ≤ 2 ^ 30) (io : IVec ⟨3, ![1, 1, W]⟩ 32)
    (hio : ∀ n : Fin W, io (ix3 0 0 n) = BitVec.ofNat 32 n.val) (mk : IVec ⟨3, ![1, 1, W]⟩ 1)
    (hmk : ∀ n : Fin W, mk (ix3 0 0 n) = 1#1 ↔ lo ≤ n.val ∧ n.val < lo + m)
    (x : FVec Ideal ⟨3, ![8, 8, W]⟩ .f32) (b o : Fin 8) (hxt : ∀ n, x (ix3 b o n) ≠ ⊤) (hxb : ∀ n, x (ix3 b o n) ≠ ⊥)
    (n : Fin W) :
    andi (cmpf .oeq (absf ((roundV hr hc hb hi hs io)^[k] (select (broadcastTo ⟨3, ![8, 8, W]⟩ (shapeCast ⟨3, ![1, 1, W]⟩ mk hs) hi)
        x (broadcast ⟨3, ![8, 8, W]⟩ (FloatOps.ofBits .f32 0x7F800000#32)))))
      (broadcast ⟨3, ![8, 8, W]⟩ (FloatOps.ofBits .f32 0x7F800000#32)))
      (broadcastTo ⟨3, ![8, 8, W]⟩ mk hi) (ix3 b o n) = 1#1
    ↔ ∃ p : Fin k, lo + (Spec.nth (fun t : Fin m => x (ix3 b o ⟨lo + t, by omega⟩)) (p.castLE hk)).val = n.val := by
  have hmb : broadcastTo ⟨3, ![8, 8, W]⟩ mk hi (ix3 b o n) = mk (ix3 0 0 n) := numbers_apply hi mk b o n
  set v := select (broadcastTo ⟨3, ![8, 8, W]⟩ (shapeCast ⟨3, ![1, 1, W]⟩ mk hs) hi)
        x (broadcast ⟨3, ![8, 8, W]⟩ (FloatOps.ofBits .f32 0x7F800000#32)) with hv
  have hva : ∀ i : Fin W, v (ix3 b o i) = if lo ≤ i.val ∧ i.val < lo + m then x (ix3 b o i) else ⊤ := by
    intro i
    rw [hv, shapeCast_self]
    show Scalar.select (broadcastTo ⟨3, ![8, 8, W]⟩ mk hi (ix3 b o i)) (x (ix3 b o i)) (FloatOps.ofBits .f32 0x7F800000#32) = _
    rw [numbers_apply hi mk b o i, ofBits_top]
    unfold Scalar.select
    by_cases h : mk (ix3 0 0 i) = 1
    · rw [if_pos h, if_pos ((hmk i).mp h)]
    · rw [if_neg h, if_neg (fun h' => h ((hmk i).mpr h'))]
  have hand : ∀ p q : BitVec 1, IntOp.andi p q = 1#1 ↔ p = 1#1 ∧ q = 1#1 := by decide
  show IntOp.andi (Ideal.cmp .oeq (max ((roundV hr hc hb hi hs io)^[k] v (ix3 b o n)) (-((roundV hr hc hb hi hs io)^[k] v (ix3 b o n))))
      (FloatOps.ofBits (F := Ideal) .f32 0x7F800000#32)) (broadcastTo ⟨3, ![8, 8, W]⟩ mk hi (ix3 b o n)) = 1#1 ↔ _
  rw [hand, hmb, hmk, ofBits_top, roundV_iterate _ _ _ _ _ hW io hio]
  have hcmp : ∀ a b : EReal, Ideal.cmp .oeq a b = 1#1 ↔ a = b := by
    intro a b
    show BitVec.ofBool (decide (a = b)) = 1#1 ↔ _
    by_cases h : a = b <;> simp [h]
  rw [hcmp]
  let e : Fin m → Fin W := fun t => ⟨lo + t, by omega⟩
  have hea : ∀ t, v (ix3 b o (e t)) = x (ix3 b o (e t)) := fun t => by
    rw [hva, if_pos]
    exact ⟨Nat.le_add_right _ _, Nat.add_lt_add_left t.isLt _⟩
  have hlev := level_row (n := W) (m := m) (k := k) (fun i => v (ix3 b o i)) e
    (fun s t hst => Fin.lt_def.mpr (Nat.add_lt_add_left (Fin.lt_def.mp hst) _))
    (fun t => by rw [hea]; exact hxt _) (fun t => by rw [hea]; exact hxb _)
    (fun i hi' => by
      rw [hva, if_neg]
      rintro ⟨h1, h2⟩
      exact hi' ⟨i.val - lo, by omega⟩ (Fin.ext (show lo + (i.val - lo) = i.val by omega))) hk
  simp only [hea] at hlev
  constructor
  · rintro ⟨h1, h2, h3⟩
    have hn : n = e ⟨n.val - lo, by omega⟩ := Fin.ext (show n.val = lo + (n.val - lo) by omega)
    rw [hn] at h1
    obtain ⟨p, hp⟩ := (hlev _).mp h1
    refine ⟨p, ?_⟩
    have := congrArg Fin.val hp
    simp only [e] at this
    rw [this]
    show lo + (n.val - lo) = n.val
    omega
  · rintro ⟨p, hp⟩
    have hlt := (Spec.nth (fun t : Fin m => x (ix3 b o ⟨lo + t, by omega⟩)) (p.castLE hk)).isLt
    have hn : n = e (Spec.nth (fun t : Fin m => x (ix3 b o ⟨lo + t, by omega⟩)) (p.castLE hk)) := Fin.ext hp.symm
    refine ⟨?_, by omega, by omega⟩
    rw [hn]
    exact (hlev _).mpr ⟨p, rfl⟩

end

end Cert.Pick

end
-- ==== Proof.Select.lean ====
/-
  The kernel's selection of candidate priors: the prior `n` is selected for the box `o` of image `b` exactly when it is
  one of the 49 nearest.
-/
module

public import proofs.«01_k».proof.Proof.Chains
public import proofs.«01_k».proof.Proof.Level

@[expose] public section

set_option maxRecDepth 16384

noncomputable section

open Idealize.ShloMosaic Idealize.ShloMosaic.TcCoe Idealize.SL.Sem
open Cert.KernelIdeal Cert.KernelIdeal.Gen Cert.Pick
open scoped Classical

namespace Cert.Words

open kernelRun0_A

variable (c : Dev nD) (a2 : Memref sig .tc .vmem S4x5460 .f32) (h2 : a2.IsWhole)
  (a3 : Memref sig .tc .vmem S8x8x4 .f32) (h3 : a3.IsWhole)
  (x1 : Vec Ideal S4x5460 .f32) (x2 : Vec Ideal S8x8x4 .f32)

/-- The distances of a box to all priors. -/
def dists (x1 : Vec Ideal S4x5460 .f32) (x2 : Vec Ideal S8x8x4 .f32) (b o : Fin 8) : Fin 5460 → EReal :=
  fun n => Spec.dist (box x2 b o) (prior x1 n)

/-- A word's place between two bounds, for the words that number the positions of a row. -/
theorem between {lo hi n : ℕ} (hn : n < 2 ^ 20) (hlo : lo < 2 ^ 20) (hhi : hi < 2 ^ 20) :
    IntOp.andi (IntOp.cmpi .sge (BitVec.ofNat 32 n) (BitVec.ofNat 32 lo))
      (IntOp.cmpi .slt (BitVec.ofNat 32 n) (BitVec.ofNat 32 hi)) = 1#1 ↔ lo ≤ n ∧ n < hi := by
  have hand : ∀ p q : BitVec 1, IntOp.andi p q = 1#1 ↔ p = 1#1 ∧ q = 1#1 := by decide
  have hi' : ∀ k : ℕ, k < 2 ^ 20 → (BitVec.ofNat 32 k).toInt = k := fun k hk => by
    rw [BitVec.toInt_eq_toNat_cond, BitVec.toNat_ofNat, Nat.mod_eq_of_lt (by omega), if_pos (by omega)]
  have hb : ∀ p : Prop, [Decidable p] → (BitVec.ofBool (decide p) = 1#1 ↔ p) := fun p _ => by
    by_cases h : p <;> simp [h]
  rw [hand]
  show (BitVec.ofBool ((BitVec.ofNat 32 lo).sle (BitVec.ofNat 32 n)) = 1#1 ∧ BitVec.ofBool ((BitVec.ofNat 32 n).slt (BitVec.ofNat 32 hi)) = 1#1) ↔ _
  unfold BitVec.sle BitVec.slt
  rw [hb, hb, hi' _ hn, hi' _ hlo, hi' _ hhi]
  omega

theorem v130_apply (n : Fin 4096) : sl.v130 (ix3 0 0 n) = BitVec.ofNat 32 n.val := by
  unfold sl.v130; pointwise
theorem v141_apply (n : Fin 1024) : sl.v141 (ix3 0 0 n) = BitVec.ofNat 32 n.val := by
  unfold sl.v141; pointwise
theorem v152_apply (n : Fin 256) : sl.v152 (ix3 0 0 n) = BitVec.ofNat 32 n.val := by
  unfold sl.v152; pointwise
theorem v163_apply (n : Fin 84) : sl.v163 (ix3 0 0 n) = BitVec.ofNat 32 n.val := by
  unfold sl.v163; pointwise

theorem v135_apply (n : Fin 4096) : sl.v135 (ix3 0 0 n) = 1#1 ↔ 0 ≤ n.val ∧ n.val < 0 + 4096 := by
  rw [← between (lo := 0) (hi := 0 + 4096) (n := n.val) (by omega) (by omega) (by omega), ← v130_apply]; rfl
theorem v146_apply (n : Fin 1024) : sl.v146 (ix3 0 0 n) = 1#1 ↔ 0 ≤ n.val ∧ n.val < 0 + 1024 := by
  rw [← between (lo := 0) (hi := 0 + 1024) (n := n.val) (by omega) (by omega) (by omega), ← v141_apply]; rfl
theorem v157_apply (n : Fin 256) : sl.v157 (ix3 0 0 n) = 1#1 ↔ 0 ≤ n.val ∧ n.val < 0 + 256 := by
  rw [← between (lo := 0) (hi := 0 + 256) (n := n.val) (by omega) (by omega) (by omega), ← v152_apply]; rfl
theorem v168_apply (n : Fin 84) : sl.v168 (ix3 0 0 n) = 1#1 ↔ 0 ≤ n.val ∧ n.val < 0 + 64 := by
  rw [← between (lo := 0) (hi := 0 + 64) (n := n.val) (by omega) (by omega) (by omega), ← v163_apply]; rfl
theorem v177_apply (n : Fin 84) : sl.v177 (ix3 0 0 n) = 1#1 ↔ 64 ≤ n.val ∧ n.val < 64 + 16 := by
  rw [← between (lo := 64) (hi := 64 + 16) (n := n.val) (by omega) (by omega) (by omega), ← v163_apply]; rfl
theorem v186_apply (n : Fin 84) : sl.v186 (ix3 0 0 n) = 1#1 ↔ 80 ≤ n.val ∧ n.val < 80 + 4 := by
  rw [← between (lo := 80) (hi := 80 + 4) (n := n.val) (by omega) (by omega) (by omega), ← v163_apply]; rfl

/-- The four parts of the rows of distances. -/
theorem v129_apply (b o : Fin 8) (n : Fin 4096) :
    sl.v129 c a2 h2 a3 h3 x1 x2 (ix3 b o n) = dists x1 x2 b o ⟨0 + n, by omega⟩ := by
  unfold sl.v129
  pointwise
  exact v84_apply ..
theorem v140_apply (b o : Fin 8) (n : Fin 1024) :
    sl.v140 c a2 h2 a3 h3 x1 x2 (ix3 b o n) = dists x1 x2 b o ⟨4096 + n, by omega⟩ := by
  unfold sl.v140
  pointwise
  exact v84_apply ..
theorem v151_apply (b o : Fin 8) (n : Fin 256) :
    sl.v151 c a2 h2 a3 h3 x1 x2 (ix3 b o n) = dists x1 x2 b o ⟨5120 + n, by omega⟩ := by
  unfold sl.v151
  pointwise
  exact v84_apply ..
theorem v162_apply (b o : Fin 8) (n : Fin 84) :
    sl.v162 c a2 h2 a3 h3 x1 x2 (ix3 b o n) = dists x1 x2 b o ⟨5376 + n, by omega⟩ := by
  unfold sl.v162
  pointwise
  exact v84_apply ..

/-- The number `n` is one of the `k` nearest of the level of `m` priors that starts at `g`. -/
def Hit (g m k : ℕ) (h : g + m ≤ 5460) (hk : k ≤ m) (d : Fin 5460 → EReal) (n : ℕ) : Prop :=
  ∃ p : Fin k, g + (Spec.nth (Spec.slice g m h d) (p.castLE hk)).val = n

theorem Hit.range {g m k : ℕ} {h : g + m ≤ 5460} {hk : k ≤ m} {d : Fin 5460 → EReal} {n : ℕ} (H : Hit g m k h hk d n) :
    g ≤ n ∧ n < g + m := by
  obtain ⟨p, hp⟩ := H
  generalize Spec.nth (Spec.slice g m h d) (p.castLE hk) = t at hp
  have := t.isLt
  omega

theorem hit_iff {g m k base lo n : ℕ} {h : g + m ≤ 5460} {hk : k ≤ m} {d : Fin 5460 → EReal} (hg : g = base + lo) :
    (∃ p : Fin k, lo + (Spec.nth (Spec.slice g m h d) (p.castLE hk)).val = n) ↔ Hit g m k h hk d (base + n) := by
  unfold Hit
  refine exists_congr fun p => ?_
  generalize Spec.nth (Spec.slice g m h d) (p.castLE hk) = t
  omega

section
variable (b o : Fin 8) (hf : ∀ n, dists x1 x2 b o n ≠ ⊤ ∧ dists x1 x2 b o n ≠ ⊥)
include hf

theorem v930_apply (n : Fin 4096) :
    sl.v930 c a2 h2 a3 h3 x1 x2 (ix3 b o n) = 1#1
      ↔ Hit 0 4096 9 (by omega) (by omega) (dists x1 x2 b o) (0 + n.val) := by
  have h := level_vec reduces_S8x8x4096_S8x8 shapeCasts_S8x8_S8x8x1 broadcasts_S8x8x1_S8x8x4096 broadcasts_S1x1x4096_S8x8x4096
    shapeCasts_S1x1x4096_S1x1x4096 (m := 4096) (k := 9) (lo := 0) (by omega) (by omega) (by omega) sl.v130 v130_apply sl.v135
    v135_apply (sl.v129 c a2 h2 a3 h3 x1 x2) b o (fun n => by rw [v129_apply]; exact (hf ..).1)
    (fun n => by rw [v129_apply]; exact (hf ..).2) n
  have hs : (fun t : Fin 4096 => sl.v129 c a2 h2 a3 h3 x1 x2 (ix3 b o ⟨0 + t, by omega⟩))
      = Spec.slice 0 4096 (by omega) (dists x1 x2 b o) := funext fun t =>
    (v129_apply ..).trans (congrArg (dists x1 x2 b o) (Fin.ext (by show 0 + (0 + t.val) = 0 + t.val; omega)))
  rw [hs] at h
  refine Iff.trans (iff_of_eq (congrArg (· = 1#1) ?_)) (h.trans (hit_iff rfl))
  show andi (cmpf .oeq (absf (sl.v865 c a2 h2 a3 h3 x1 x2)) sl.v138) (broadcastTo S8x8x4096 sl.v135 _) (ix3 b o n) = _
  rw [chainA]
  rfl

theorem v935_apply (n : Fin 1024) :
    sl.v935 c a2 h2 a3 h3 x1 x2 (ix3 b o n) = 1#1
      ↔ Hit 4096 1024 9 (by omega) (by omega) (dists x1 x2 b o) (4096 + n.val) := by
  have h := level_vec reduces_S8x8x1024_S8x8 shapeCasts_S8x8_S8x8x1 broadcasts_S8x8x1_S8x8x1024 broadcasts_S1x1x1024_S8x8x1024
    shapeCasts_S1x1x1024_S1x1x1024 (m := 1024) (k := 9) (lo := 0) (by omega) (by omega) (by omega) sl.v141 v141_apply sl.v146
    v146_apply (sl.v140 c a2 h2 a3 h3 x1 x2) b o (fun n => by rw [v140_apply]; exact (hf ..).1)
    (fun n => by rw [v140_apply]; exact (hf ..).2) n
  have hs : (fun t : Fin 1024 => sl.v140 c a2 h2 a3 h3 x1 x2 (ix3 b o ⟨0 + t, by omega⟩))
      = Spec.slice 4096 1024 (by omega) (dists x1 x2 b o) := funext fun t =>
    (v140_apply ..).trans (congrArg (dists x1 x2 b o) (Fin.ext (by show 4096 + (0 + t.val) = 4096 + t.val; omega)))
  rw [hs] at h
  refine Iff.trans (iff_of_eq (congrArg (· = 1#1) ?_)) (h.trans (hit_iff rfl))
  show andi (cmpf .oeq (absf (sl.v880 c a2 h2 a3 h3 x1 x2)) sl.v149) (broadcastTo S8x8x1024 sl.v146 _) (ix3 b o n) = _
  rw [chainB]
  rfl

theorem v940_apply (n : Fin 256) :
    sl.v940 c a2 h2 a3 h3 x1 x2 (ix3 b o n) = 1#1
      ↔ Hit 5120 256 9 (by omega) (by omega) (dists x1 x2 b o) (5120 + n.val) := by
  have h := level_vec reduces_S8x8x256_S8x8 shapeCasts_S8x8_S8x8x1 broadcasts_S8x8x1_S8x8x256 broadcasts_S1x1x256_S8x8x256
    shapeCasts_S1x1x256_S1x1x256 (m := 256) (k := 9) (lo := 0) (by omega) (by omega) (by omega) sl.v152 v152_apply sl.v157
    v157_apply (sl.v151 c a2 h2 a3 h3 x1 x2) b o (fun n => by rw [v151_apply]; exact (hf ..).1)
    (fun n => by rw [v151_apply]; exact (hf ..).2) n
  have hs : (fun t : Fin 256 => sl.v151 c a2 h2 a3 h3 x1 x2 (ix3 b o ⟨0 + t, by omega⟩))
      = Spec.slice 5120 256 (by omega) (dists x1 x2 b o) := funext fun t =>
    (v151_apply ..).trans (congrArg (dists x1 x2 b o) (Fin.ext (by show 5120 + (0 + t.val) = 5120 + t.val; omega)))
  rw [hs] at h
  refine Iff.trans (iff_of_eq (congrArg (· = 1#1) ?_)) (h.trans (hit_iff rfl))
  show andi (cmpf .oeq (absf (sl.v895 c a2 h2 a3 h3 x1 x2)) sl.v160) (broadcastTo S8x8x256 sl.v157 _) (ix3 b o n) = _
  rw [chainC]
  rfl

theorem v945_apply (n : Fin 84) :
    sl.v945 c a2 h2 a3 h3 x1 x2 (ix3 b o n) = 1#1
      ↔ Hit 5376 64 9 (by omega) (by omega) (dists x1 x2 b o) (5376 + n.val) := by
  have h := level_vec reduces_S8x8x84_S8x8 shapeCasts_S8x8_S8x8x1 broadcasts_S8x8x1_S8x8x84 broadcasts_S1x1x84_S8x8x84
    shapeCasts_S1x1x84_S1x1x84 (m := 64) (k := 9) (lo := 0) (by omega) (by omega) (by omega) sl.v163 v163_apply sl.v168
    v168_apply (sl.v162 c a2 h2 a3 h3 x1 x2) b o (fun n => by rw [v162_apply]; exact (hf ..).1)
    (fun n => by rw [v162_apply]; exact (hf ..).2) n
  have hs : (fun t : Fin 64 => sl.v162 c a2 h2 a3 h3 x1 x2 (ix3 b o ⟨0 + t, by omega⟩))
      = Spec.slice 5376 64 (by omega) (dists x1 x2 b o) := funext fun t =>
    (v162_apply ..).trans (congrArg (dists x1 x2 b o) (Fin.ext (by show 5376 + (0 + t.val) = 5376 + t.val; omega)))
  rw [hs] at h
  refine Iff.trans (iff_of_eq (congrArg (· = 1#1) ?_)) (h.trans (hit_iff rfl))
  show andi (cmpf .oeq (absf (sl.v910 c a2 h2 a3 h3 x1 x2)) sl.v171) (broadcastTo S8x8x84 sl.v168 _) (ix3 b o n) = _
  rw [chainD]
  rfl

theorem v950_apply (n : Fin 84) :
    sl.v950 c a2 h2 a3 h3 x1 x2 (ix3 b o n) = 1#1
      ↔ Hit 5440 16 9 (by omega) (by omega) (dists x1 x2 b o) (5376 + n.val) := by
  have h := level_vec reduces_S8x8x84_S8x8 shapeCasts_S8x8_S8x8x1 broadcasts_S8x8x1_S8x8x84 broadcasts_S1x1x84_S8x8x84
    shapeCasts_S1x1x84_S1x1x84 (m := 16) (k := 9) (lo := 64) (by omega) (by omega) (by omega) sl.v163 v163_apply sl.v177
    v177_apply (sl.v162 c a2 h2 a3 h3 x1 x2) b o (fun n => by rw [v162_apply]; exact (hf ..).1)
    (fun n => by rw [v162_apply]; exact (hf ..).2) n
  have hs : (fun t : Fin 16 => sl.v162 c a2 h2 a3 h3 x1 x2 (ix3 b o ⟨64 + t, by omega⟩))
      = Spec.slice 5440 16 (by omega) (dists x1 x2 b o) := funext fun t =>
    (v162_apply ..).trans (congrArg (dists x1 x2 b o) (Fin.ext (by show 5376 + (64 + t.val) = 5440 + t.val; omega)))
  rw [hs] at h
  refine Iff.trans (iff_of_eq (congrArg (· = 1#1) ?_)) (h.trans (hit_iff rfl))
  show andi (cmpf .oeq (absf (sl.v925 c a2 h2 a3 h3 x1 x2)) sl.v171) (broadcastTo S8x8x84 sl.v177 _) (ix3 b o n) = _
  rw [chainE]
  rfl

theorem v956_apply (n : Fin 84) :
    sl.v956 c a2 h2 a3 h3 x1 x2 (ix3 b o n) = 1#1
      ↔ Hit 5456 4 4 (by omega) (by omega) (dists x1 x2 b o) (5376 + n.val) := by
  have h := level_vec reduces_S8x8x84_S8x8 shapeCasts_S8x8_S8x8x1 broadcasts_S8x8x1_S8x8x84 broadcasts_S1x1x84_S8x8x84
    shapeCasts_S1x1x84_S1x1x84 (m := 4) (k := 4) (lo := 80) (by omega) (by omega) (by omega) sl.v163 v163_apply sl.v186
    v186_apply (sl.v162 c a2 h2 a3 h3 x1 x2) b o (fun n => by rw [v162_apply]; exact (hf ..).1)
    (fun n => by rw [v162_apply]; exact (hf ..).2) n
  have hs : (fun t : Fin 4 => sl.v162 c a2 h2 a3 h3 x1 x2 (ix3 b o ⟨80 + t, by omega⟩))
      = Spec.slice 5456 4 (by omega) (dists x1 x2 b o) := funext fun t =>
    (v162_apply ..).trans (congrArg (dists x1 x2 b o) (Fin.ext (by show 5376 + (80 + t.val) = 5456 + t.val; omega)))
  rw [hs] at h
  refine Iff.trans (iff_of_eq (congrArg (· = 1#1) ?_)) (h.trans (hit_iff rfl))
  show andi (cmpf .oeq (absf (sl.v550 c a2 h2 a3 h3 x1 x2)) sl.v171) (broadcastTo S8x8x84 sl.v186 _) (ix3 b o n) = _
  rw [chainF]
  rfl

omit hf in
/-- The 49 nearest, level by level. -/
theorem near_iff (d : Fin 5460 → EReal) (n : Fin 5460) :
    (∃ k, Spec.near d k = n) ↔
      Hit 0 4096 9 (by omega) (by omega) d n.val
      ∨ Hit 4096 1024 9 (by omega) (by omega) d n.val
      ∨ Hit 5120 256 9 (by omega) (by omega) d n.val
      ∨ Hit 5376 64 9 (by omega) (by omega) d n.val
      ∨ Hit 5440 16 9 (by omega) (by omega) d n.val
      ∨ Hit 5456 4 4 (by omega) (by omega) d n.val := by
  constructor
  · rintro ⟨k, hk⟩
    have hk := congrArg Fin.val hk
    unfold Spec.near Spec.ladder at hk
    split at hk
    · exact .inl ⟨⟨k, by omega⟩, hk⟩
    split at hk
    · exact .inr (.inl ⟨⟨k - 9, by omega⟩, hk⟩)
    split at hk
    · exact .inr (.inr (.inl ⟨⟨k - 18, by omega⟩, hk⟩))
    split at hk
    · exact .inr (.inr (.inr (.inl ⟨⟨k - 27, by omega⟩, hk⟩)))
    split at hk
    · exact .inr (.inr (.inr (.inr (.inl ⟨⟨k - 36, by omega⟩, hk⟩))))
    · exact .inr (.inr (.inr (.inr (.inr ⟨⟨k - 45, by omega⟩, hk⟩))))
  · rintro (⟨p, hp⟩ | ⟨p, hp⟩ | ⟨p, hp⟩ | ⟨p, hp⟩ | ⟨p, hp⟩ | ⟨p, hp⟩)
    · refine ⟨⟨p.val, by omega⟩, Fin.ext ?_⟩
      rw [← hp]; unfold Spec.near Spec.ladder
      rw [dif_pos (show p.val < 9 by omega)]; rfl
    · refine ⟨⟨p.val + 9, by omega⟩, Fin.ext ?_⟩
      rw [← hp]; unfold Spec.near Spec.ladder
      rw [dif_neg (show ¬ p.val + 9 < 9 by omega), dif_pos (show p.val + 9 < 18 by omega)]; rfl
    · refine ⟨⟨p.val + 18, by omega⟩, Fin.ext ?_⟩
      rw [← hp]; unfold Spec.near Spec.ladder
      rw [dif_neg (show ¬ p.val + 18 < 9 by omega), dif_neg (show ¬ p.val + 18 < 18 by omega),
        dif_pos (show p.val + 18 < 27 by omega)]; rfl
    · refine ⟨⟨p.val + 27, by omega⟩, Fin.ext ?_⟩
      rw [← hp]; unfold Spec.near Spec.ladder
      rw [dif_neg (show ¬ p.val + 27 < 9 by omega), dif_neg (show ¬ p.val + 27 < 18 by omega),
        dif_neg (show ¬ p.val + 27 < 27 by omega), dif_pos (show p.val + 27 < 36 by omega)]; rfl
    · refine ⟨⟨p.val + 36, by omega⟩, Fin.ext ?_⟩
      rw [← hp]; unfold Spec.near Spec.ladder
      rw [dif_neg (show ¬ p.val + 36 < 9 by omega), dif_neg (show ¬ p.val + 36 < 18 by omega),
        dif_neg (show ¬ p.val + 36 < 27 by omega), dif_neg (show ¬ p.val + 36 < 36 by omega),
        dif_pos (show p.val + 36 < 45 by omega)]; rfl
    · refine ⟨⟨p.val + 45, by omega⟩, Fin.ext ?_⟩
      rw [← hp]; unfold Spec.near Spec.ladder
      rw [dif_neg (show ¬ p.val + 45 < 9 by omega), dif_neg (show ¬ p.val + 45 < 18 by omega),
        dif_neg (show ¬ p.val + 45 < 27 by omega), dif_neg (show ¬ p.val + 45 < 36 by omega),
        dif_neg (show ¬ p.val + 45 < 45 by omega)]; rfl

/-- The kernel's selection. -/
theorem v958_apply (n : Fin 5460) :
    sl.v958 c a2 h2 a3 h3 x1 x2 (ix3 b o n) = 1#1 ↔ ∃ k, Spec.near (dists x1 x2 b o) k = n := by
  have hor : ∀ p q : BitVec 1, IntOp.ori p q = 1#1 ↔ p = 1#1 ∨ q = 1#1 := by decide
  have hn := n.isLt
  rw [near_iff]
  unfold sl.v958
  pointwise
  split
  · rw [v930_apply c a2 h2 a3 h3 x1 x2 b o hf]
    constructor
    · intro h
      exact .inl (by simpa only [Nat.zero_add] using h)
    · rintro (h | h | h | h | h | h)
      · simpa only [Nat.zero_add] using h
      all_goals have := h.range; omega
  split
  · rw [v935_apply c a2 h2 a3 h3 x1 x2 b o hf, show 4096 + (n.val - 4096) = n.val by omega]
    constructor
    · intro h
      exact .inr (.inl h)
    · rintro (h | h | h | h | h | h)
      · have := h.range; omega
      · exact h
      all_goals have := h.range; omega
  split
  · rw [v940_apply c a2 h2 a3 h3 x1 x2 b o hf]
    simp only
    rw [show 5120 + (n.val - 4096 - 1024) = n.val by omega]
    constructor
    · intro h
      exact .inr (.inr (.inl h))
    · rintro (h | h | h | h | h | h)
      · have := h.range; omega
      · have := h.range; omega
      · exact h
      all_goals have := h.range; omega
  · unfold sl.v957 sl.v951
    rw [show ∀ p q r : IVec S8x8x84 1, ∀ j, ori (ori p q) r j = IntOp.ori (IntOp.ori (p j) (q j)) (r j) from fun _ _ _ _ => rfl]
    rw [hor, hor, v945_apply c a2 h2 a3 h3 x1 x2 b o hf, v950_apply c a2 h2 a3 h3 x1 x2 b o hf, v956_apply c a2 h2 a3 h3 x1 x2 b o hf]
    simp only
    rw [show 5376 + (n.val - 4096 - 1024 - 256) = n.val by omega]
    constructor
    · rintro ((h | h) | h)
      · exact .inr (.inr (.inr (.inl h)))
      · exact .inr (.inr (.inr (.inr (.inl h))))
      · exact .inr (.inr (.inr (.inr (.inr h))))
    · rintro (h | h | h | h | h | h)
      · have := h.range; omega
      · have := h.range; omega
      · have := h.range; omega
      · exact .inl (.inl h)
      · exact .inl (.inr h)
      · exact .inr h

end

end Cert.Words

end
-- ==== Proof.Unbounded.lean ====
/-
  A box with an infinite corner matches no prior: its overlap with any prior is 0 or infinite, and no such number lies
  above the mean of its like plus a standard deviation.
-/
module

public import proofs.«01_k».proof.Proof.Finite

@[expose] public section

noncomputable section

open Idealize.ShloMosaic
open scoped Classical

namespace Cert.Spec

theorem eps_real : ∃ r : ℝ, 0 < r ∧ eps = (r : EReal) := by
  unfold eps
  refine ⟨_, ?_, by simp [Ideal.ofBits, Ideal.ieee]; norm_cast⟩
  positivity

theorem real49 : c49 = ((49 : ℝ) : EReal) := by
  unfold c49
  simp [Ideal.ofBits, Ideal.ieee]; norm_cast; norm_num

theorem real48 : c48 = ((48 : ℝ) : EReal) := by
  unfold c48
  simp [Ideal.ofBits, Ideal.ieee]; norm_cast; norm_num

/-- To divide by a positive real is to multiply by its inverse. -/
theorem div_real (x : EReal) (r : ℝ) (hr : 0 < r) : Ideal.div x r = x * ((r⁻¹ : ℝ) : EReal) := by
  unfold Ideal.div
  rw [if_neg (by exact_mod_cast hr.ne'), EReal.coe_inv]

/-- A positive difference with an infinite end is infinite. -/
theorem sub_eq_top (a b : EReal) (h : 0 < a - b) (hi : (a = ⊤ ∨ a = ⊥) ∨ (b = ⊤ ∨ b = ⊥)) : a - b = ⊤ := by
  induction a <;> induction b <;> simp_all [sub_eq_add_neg]

/-- The overlap of a box with an infinite corner is 0 or infinite. -/
theorem iou_unbounded (x y : Fin 4 → EReal) (hx : ∃ k, x k = ⊤ ∨ x k = ⊥) : iou x y = 0 ∨ iou x y = ⊤ := by
  obtain ⟨e, he, hee⟩ := eps_real
  have hpos : ∀ z : EReal, 0 < max eps z := fun z => lt_of_lt_of_le (by rw [hee]; exact_mod_cast he) (le_max_left _ _)
  by_cases hA : 0 < min (x 2) (y 2) - max (x 0) (y 0)
  · by_cases hB : 0 < min (x 3) (y 3) - max (x 1) (y 1)
    · have a1 : 0 < x 2 - x 0 := hA.trans_le (EReal.sub_le_sub (min_le_left _ _) (le_max_left _ _))
      have a2 : 0 < x 3 - x 1 := hB.trans_le (EReal.sub_le_sub (min_le_left _ _) (le_max_left _ _))
      have b1 : 0 < y 2 - y 0 := hA.trans_le (EReal.sub_le_sub (min_le_right _ _) (le_max_right _ _))
      have b2 : 0 < y 3 - y 1 := hB.trans_le (EReal.sub_le_sub (min_le_right _ _) (le_max_right _ _))
      have ax : area x = ⊤ := by
        unfold area
        obtain ⟨k, hk⟩ := hx
        fin_cases k
        · rw [sub_eq_top _ _ a1 (.inr hk), EReal.top_mul_of_pos a2]
        · rw [sub_eq_top _ _ a2 (.inr hk), EReal.mul_top_of_pos a1]
        · rw [sub_eq_top _ _ a1 (.inl hk), EReal.top_mul_of_pos a2]
        · rw [sub_eq_top _ _ a2 (.inl hk), EReal.mul_top_of_pos a1]
      have ay : 0 < area y := EReal.mul_pos b1 b2
      have hi : 0 < inter x y := by
        unfold inter
        exact EReal.mul_pos (lt_max_of_lt_right hA) (lt_max_of_lt_right hB)
      unfold iou
      rw [ax, EReal.top_add_of_ne_bot (ne_bot_of_gt ay)]
      by_cases ht : inter x y = ⊤
      · right
        rw [ht, show (⊤ : EReal) - ⊤ = ⊥ from rfl, max_eq_left bot_le, hee, div_real _ _ he,
          EReal.top_mul_of_pos (by exact_mod_cast inv_pos.2 he)]
      · left
        rw [EReal.top_sub ht, max_eq_right le_top]
        unfold Ideal.div
        rw [if_neg EReal.top_ne_zero, EReal.inv_top, mul_zero]
    · left
      have h0 : inter x y = 0 := by
        unfold inter
        rw [max_eq_left (not_lt.1 hB), mul_zero]
      unfold iou Ideal.div
      rw [h0, if_neg (hpos _).ne', zero_mul]
  · left
    have h0 : inter x y = 0 := by
      unfold inter
      rw [max_eq_left (not_lt.1 hA), zero_mul]
    unfold iou Ideal.div
    rw [h0, if_neg (hpos _).ne', zero_mul]

theorem sq_nonneg' (x : EReal) : 0 ≤ x * x := by
  rcases le_total 0 x with h | h
  · exact mul_nonneg h h
  · rw [← neg_mul_neg]
    have : 0 ≤ -x := EReal.le_neg_of_le_neg (by simpa using h)
    exact mul_nonneg this this

theorem sqrt_nonneg' (x : EReal) (h : 0 ≤ x) : 0 ≤ Ideal.sqrt x := by
  induction x with
  | bot => simp at h
  | top => exact le_top
  | coe r =>
    have hr : ¬ r < 0 := not_lt.2 (by exact_mod_cast h)
    show (0 : EReal) ≤ if r < 0 then ⊥ else ((Real.sqrt r : ℝ) : EReal)
    rw [if_neg hr]
    exact_mod_cast Real.sqrt_nonneg r

/-- Among numbers that are 0 or infinite, weighted by 0 or 1, none of weight 1 lies above the threshold. -/
theorem not_above {ι : Type*} [Fintype ι] (f s : ι → EReal) (hf : ∀ i, f i = 0 ∨ f i = ⊤) (hs : ∀ i, s i = 0 ∨ s i = 1)
    (μ t : EReal) (hμ : μ = Ideal.div (∑ i, f i * s i) c49)
    (ht : t = μ + Ideal.sqrt (Ideal.div (∑ i, (f i - μ) * s i * ((f i - μ) * s i)) c48)) (n : ι) (hn : s n = 1) :
    ¬ t < f n := by
  have h0 : ∀ i, 0 ≤ f i * s i := fun i => by
    rcases hf i with h | h <;> rcases hs i with h' | h' <;> simp [h, h']
  have hdiv : ∀ x : EReal, ∀ r : ℝ, 0 < r → 0 ≤ x → 0 ≤ Ideal.div x r := fun x r hr hx => by
    rw [div_real _ _ hr]
    exact mul_nonneg hx (by exact_mod_cast (inv_pos.2 hr).le)
  have hμ0 : 0 ≤ μ := by
    rw [hμ, real49]
    exact hdiv _ _ (by norm_num) (Finset.sum_nonneg fun i _ => h0 i)
  have hq : 0 ≤ Ideal.sqrt (Ideal.div (∑ i, (f i - μ) * s i * ((f i - μ) * s i)) c48) := by
    refine sqrt_nonneg' _ ?_
    rw [real48]
    exact hdiv _ _ (by norm_num) (Finset.sum_nonneg fun i _ => sq_nonneg' _)
  rcases hf n with h | h
  · rw [h, not_lt, ht]
    exact add_nonneg hμ0 hq
  · have hsum : ∑ i, f i * s i = ⊤ := by
      refine top_le_iff.1 ?_
      calc (⊤ : EReal) = f n * s n := by rw [h, hn, mul_one]
        _ ≤ _ := Finset.single_le_sum (f := fun i => f i * s i) (fun i _ => h0 i) (Finset.mem_univ n)
    have : μ = ⊤ := by
      rw [hμ, hsum, real49, div_real _ _ (by norm_num)]
      exact EReal.top_mul_of_pos (by norm_num)
    rw [ht, this, EReal.top_add_of_ne_bot (ne_bot_of_le_ne_bot (by simp) (this ▸ hq))]
    exact not_top_lt

/-- A box with an infinite corner asks too much of its candidates. -/
theorem not_good (x : Fin 4 → EReal) (hx : ∃ k, x k = ⊤ ∨ x k = ⊥) (q : Fin 49 → Fin 4 → EReal) (k : Fin 49) :
    ¬ good (thr fun k => iou x (corners (q k))) x (q k) := by
  intro h
  refine not_above (fun k => iou x (corners (q k))) (fun _ => 1) (fun _ => iou_unbounded _ _ hx) (fun _ => .inr rfl) _ _ rfl ?_ k rfl h.1
  simp only [mul_one]
  rfl

end Cert.Spec

end
-- ==== Proof.Mask.lean ====
/-
  The kernel's mask of matches, the losses under it and the labels of the priors, read at one box and one prior.
-/
module

public import proofs.«01_k».proof.Proof.Select
public import proofs.«01_k».proof.Proof.Sums
public import proofs.«01_k».proof.Proof.Unbounded

@[expose] public section

set_option maxRecDepth 16384

noncomputable section

open Idealize.ShloMosaic Idealize.ShloMosaic.TcCoe Idealize.SL.Sem
open Cert.KernelIdeal Cert.KernelIdeal.Gen Cert.Pick
open scoped Classical

namespace Cert.Words

open kernelRun0_A

variable (c : Dev nD) (a2 : Memref sig .tc .vmem S4x5460 .f32) (h2 : a2.IsWhole)
  (a3 : Memref sig .tc .vmem S8x8x4 .f32) (h3 : a3.IsWhole)
  (x1 : Vec Ideal S4x5460 .f32) (x2 : Vec Ideal S8x8x4 .f32)
  (b o : Fin 8) (hf : ∀ n, dists x1 x2 b o n ≠ ⊤ ∧ dists x1 x2 b o n ≠ ⊥)

/-- The overlaps of a box with its 49 nearest priors. -/
def overlaps (x1 : Vec Ideal S4x5460 .f32) (x2 : Vec Ideal S8x8x4 .f32) (b o : Fin 8) : Fin 49 → EReal :=
  fun k => Spec.iou (box x2 b o) (Spec.corners (prior x1 (Spec.near (dists x1 x2 b o) k)))

/-- A bit as a number. -/
theorem bit_real (p : BitVec 1) : ((((p.setWidth 32).toInt : ℤ) : ℝ) : EReal) = if p = 1#1 then 1 else 0 := by
  have : p = 0#1 ∨ p = 1#1 := by revert p; decide
  rcases this with rfl | rfl <;> simp

/-- The mask of the selected priors as numbers. -/
theorem v960_bit (n : Fin 5460) :
    sl.v960 c a2 h2 a3 h3 x1 x2 (ix3 b o n) = if sl.v958 c a2 h2 a3 h3 x1 x2 (ix3 b o n) = 1#1 then 1 else 0 := by
  simp only [sl.v960, sl.v959]
  pointwise
  exact bit_real _

/-- The mean that the kernel takes over the selected priors, whichever they are. -/
theorem v965_sum : sl.v965 c a2 h2 a3 h3 x1 x2 (ix3 b o 0)
    = Ideal.div (∑ n : Fin 5460, Spec.iou (box x2 b o) (Spec.corners (prior x1 n)) * sl.v960 c a2 h2 a3 h3 x1 x2 (ix3 b o n)) Spec.c49 := by
  simp only [sl.v965, sl.v964, sl.v963, sl.v962, sl.v961, sl.cst_258]
  pointwise
  simp only [v128_apply]
  rfl

/-- The threshold that the kernel takes over the selected priors, whichever they are. -/
theorem v975_sum : sl.v975 c a2 h2 a3 h3 x1 x2 (ix3 b o 0)
    = sl.v965 c a2 h2 a3 h3 x1 x2 (ix3 b o 0) + Ideal.sqrt (Ideal.div (∑ n : Fin 5460,
        (Spec.iou (box x2 b o) (Spec.corners (prior x1 n)) - sl.v965 c a2 h2 a3 h3 x1 x2 (ix3 b o 0)) * sl.v960 c a2 h2 a3 h3 x1 x2 (ix3 b o n)
          * ((Spec.iou (box x2 b o) (Spec.corners (prior x1 n)) - sl.v965 c a2 h2 a3 h3 x1 x2 (ix3 b o 0)) * sl.v960 c a2 h2 a3 h3 x1 x2 (ix3 b o n)))
        Spec.c48) := by
  simp only [sl.v975, sl.v974, sl.v973, sl.v972, sl.v971, sl.v970, sl.v969, sl.v968, sl.v967, sl.v966, sl.cst_260]
  pointwise
  simp only [v128_apply]
  rfl

include hf

/-- The selected priors are the 49 nearest, for a box at finite distances. -/
theorem v960_apply (n : Fin 5460) :
    sl.v960 c a2 h2 a3 h3 x1 x2 (ix3 b o n) = if ∃ k, Spec.near (dists x1 x2 b o) k = n then 1 else 0 := by
  simp only [← v958_apply c a2 h2 a3 h3 x1 x2 b o hf]
  exact v960_bit c a2 h2 a3 h3 x1 x2 b o n

/-- Their mean is that of the 49 overlaps. -/
theorem v965_apply : sl.v965 c a2 h2 a3 h3 x1 x2 (ix3 b o 0) = Spec.mean (overlaps x1 x2 b o) := by
  rw [v965_sum]
  simp only [v960_apply c a2 h2 a3 h3 x1 x2 b o hf]
  rw [Spec.sum_near _ (fun n => Spec.iou (box x2 b o) (Spec.corners (prior x1 n)))]
  rfl

/-- The threshold is that of the 49 overlaps. -/
theorem v975_apply : sl.v975 c a2 h2 a3 h3 x1 x2 (ix3 b o 0) = Spec.thr (overlaps x1 x2 b o) := by
  rw [v975_sum]
  simp only [v960_apply c a2 h2 a3 h3 x1 x2 b o hf, v965_apply c a2 h2 a3 h3 x1 x2 b o hf]
  have hm : ∀ (a : EReal) (P : Prop) [Decidable P], (a * (if P then (1 : EReal) else 0)) * (a * (if P then (1 : EReal) else 0)) = a * a * (if P then (1 : EReal) else 0) := by
    intro a P _
    by_cases h : P <;> simp [h]
  simp only [hm]
  rw [Spec.sum_near _ (fun n => (Spec.iou (box x2 b o) (Spec.corners (prior x1 n)) - Spec.mean (overlaps x1 x2 b o))
    * (Spec.iou (box x2 b o) (Spec.corners (prior x1 n)) - Spec.mean (overlaps x1 x2 b o)))]
  rfl

/-- The prior `n` is a match of the box `o` of image `b`. -/
def Match (x1 : Vec Ideal S4x5460 .f32) (x2 : Vec Ideal S8x8x4 .f32) (b o : Fin 8) (n : Fin 5460) : Prop :=
  (∃ k, Spec.near (dists x1 x2 b o) k = n) ∧ Spec.good (Spec.thr (overlaps x1 x2 b o)) (box x2 b o) (prior x1 n)

omit hf in
/-- What the kernel's mask of matches says: selected, above the threshold, and the centre in the box. -/
theorem v994_iff (n : Fin 5460) : sl.v994 c a2 h2 a3 h3 x1 x2 (ix3 b o n) = 1#1 ↔
    sl.v958 c a2 h2 a3 h3 x1 x2 (ix3 b o n) = 1#1 ∧ Spec.good (sl.v975 c a2 h2 a3 h3 x1 x2 (ix3 b o 0)) (box x2 b o) (prior x1 n) := by
  have hand : ∀ p q : BitVec 1, IntOp.andi p q = 1#1 ↔ p = 1#1 ∧ q = 1#1 := by decide
  have hb : ∀ p : Prop, [Decidable p] → (BitVec.ofBool (decide p) = 1#1 ↔ p) := fun p _ => by
    by_cases h : p <;> simp [h]
  simp only [sl.v994, sl.v993, sl.v992, sl.v991, sl.v990, sl.v989, sl.v986, sl.v985, sl.v982, sl.v981, sl.v978, sl.v106, sl.v103,
    sl.v100, sl.v97, sl.v80, sl.v76]
  pointwise
  rw [v128_apply, r_apply, r_1_apply, r_2_apply, r_3_apply, v55_apply, v58_apply]
  rw [hand, hand, hand, hand, hand, hb, hb, hb, hb, hb]
  unfold Spec.good Spec.inside
  constructor
  · rintro ⟨⟨p1, p2⟩, ⟨⟨p3, p4⟩, p5⟩, p6⟩
    exact ⟨p1, p2, p3, p4, p5, p6⟩
  · rintro ⟨p1, p2, p3, p4, p5, p6⟩
    exact ⟨⟨p1, p2⟩, ⟨⟨p3, p4⟩, p5⟩, p6⟩

omit hf in
/-- A box with an infinite corner matches no prior in the kernel, whichever priors it selects. -/
theorem v994_unbounded (hx : ∃ k, box x2 b o k = ⊤ ∨ box x2 b o k = ⊥) (n : Fin 5460) :
    ¬ sl.v994 c a2 h2 a3 h3 x1 x2 (ix3 b o n) = 1#1 := by
  rw [v994_iff]
  rintro ⟨hs, hg⟩
  refine Spec.not_above (fun n => Spec.iou (box x2 b o) (Spec.corners (prior x1 n))) (fun n => sl.v960 c a2 h2 a3 h3 x1 x2 (ix3 b o n))
    (fun _ => Spec.iou_unbounded _ _ hx) (fun i => ?_) _ _ (v965_sum c a2 h2 a3 h3 x1 x2 b o) (v975_sum c a2 h2 a3 h3 x1 x2 b o) n ?_ hg.1
  · show sl.v960 c a2 h2 a3 h3 x1 x2 (ix3 b o i) = 0 ∨ sl.v960 c a2 h2 a3 h3 x1 x2 (ix3 b o i) = 1
    rw [v960_bit]
    by_cases h : sl.v958 c a2 h2 a3 h3 x1 x2 (ix3 b o i) = 1#1
    · exact .inr (if_pos h)
    · exact .inl (if_neg h)
  · show sl.v960 c a2 h2 a3 h3 x1 x2 (ix3 b o n) = 1
    rw [v960_bit]
    exact if_pos hs

omit hf in
/-- Nor is there a match in the plain mathematics. -/
theorem not_match (hx : ∃ k, box x2 b o k = ⊤ ∨ box x2 b o k = ⊥) (n : Fin 5460) : ¬ Match x1 x2 b o n := by
  rintro ⟨⟨k, rfl⟩, hg⟩
  exact Spec.not_good _ hx (fun k => prior x1 (Spec.near (dists x1 x2 b o) k)) k hg

omit hf in
/-- The kernel's mask holds the matches, the priors' centres being finite. -/
theorem v994_apply (hq : ∀ n, (prior x1 n 0 ≠ ⊤ ∧ prior x1 n 0 ≠ ⊥) ∧ prior x1 n 1 ≠ ⊤ ∧ prior x1 n 1 ≠ ⊥) (n : Fin 5460) :
    sl.v994 c a2 h2 a3 h3 x1 x2 (ix3 b o n) = 1#1 ↔ Match x1 x2 b o n := by
  by_cases hx : ∃ k, box x2 b o k = ⊤ ∨ box x2 b o k = ⊥
  · exact iff_of_false (v994_unbounded c a2 h2 a3 h3 x1 x2 b o hx n) (not_match x1 x2 b o hx n)
  · have hf : ∀ n, dists x1 x2 b o n ≠ ⊤ ∧ dists x1 x2 b o n ≠ ⊥ := fun n =>
      Spec.dist_finite _ _ (fun k => ⟨fun h => hx ⟨k, .inl h⟩, fun h => hx ⟨k, .inr h⟩⟩) (hq n).1 (hq n).2
    rw [v994_iff, v958_apply c a2 h2 a3 h3 x1 x2 b o hf, v975_apply c a2 h2 a3 h3 x1 x2 b o hf]
    exact Iff.rfl

end Cert.Words

end
-- ==== Proof.LocLoss.lean ====
/-
  The kernel's localization loss: the sum over all boxes and priors under the mask of matches, and the number of matches.
-/
module

public import proofs.«01_k».proof.Proof.Mask

@[expose] public section

set_option maxRecDepth 16384

noncomputable section

open Idealize.ShloMosaic Idealize.ShloMosaic.TcCoe Idealize.SL.Sem
open Cert.KernelIdeal Cert.KernelIdeal.Gen Cert.Pick
open scoped Classical

namespace Cert.Words

open kernelRun0_A

variable (c : Dev nD) (a1 : Memref sig .tc .vmem S8x4x5460 .f32) (h1 : a1.IsWhole)
  (a2 : Memref sig .tc .vmem S4x5460 .f32) (h2 : a2.IsWhole)
  (a3 : Memref sig .tc .vmem S8x8x4 .f32) (h3 : a3.IsWhole)
  (x0 : Vec Ideal S8x4x5460 .f32) (x1 : Vec Ideal S4x5460 .f32) (x2 : Vec Ideal S8x8x4 .f32)

/-- The decoded prediction of image `b` at prior `n`, by its corners. -/
def decoded (x0 : Vec Ideal S8x4x5460 .f32) (x1 : Vec Ideal S4x5460 .f32) (b : Fin 8) (n : Fin 5460) : Fin 4 → EReal :=
  Spec.corners (Spec.decode (pred x0 b n) (prior x1 n))

theorem v1027_apply (b : Fin 8) (n : Fin 5460) :
    sl.v1027 c a1 h1 a2 h2 x0 x1 (ix3 b 0 n) = Spec.decode (pred x0 b n) (prior x1 n) 0 := by
  simp only [sl.v1027, sl.v1026, sl.v1025, sl.v1024, sl.v1023, sl.v1022, sl.v1015, sl.cst_280, View.readAt_eq_ld, h1.read_unread]
  pointwise
  rw [v55_apply, v61_apply]
  rfl

theorem v1033_apply (b : Fin 8) (n : Fin 5460) :
    sl.v1033 c a1 h1 a2 h2 x0 x1 (ix3 b 0 n) = Spec.decode (pred x0 b n) (prior x1 n) 1 := by
  simp only [sl.v1033, sl.v1032, sl.v1031, sl.v1029, sl.v1028, sl.v1024, sl.v1017, sl.cst_280, View.readAt_eq_ld, h1.read_unread]
  pointwise
  rw [v58_apply, v64_apply]
  rfl

theorem v1038_apply (b : Fin 8) (n : Fin 5460) :
    sl.v1038 c a1 h1 a2 h2 x0 x1 (ix3 b 0 n) = Spec.decode (pred x0 b n) (prior x1 n) 2 := by
  simp only [sl.v1038, sl.v1036, sl.v1035, sl.v1034, sl.v1022, sl.v1019, sl.cst_282, View.readAt_eq_ld, h1.read_unread]
  pointwise
  rw [v61_apply]
  rfl

theorem v1043_apply (b : Fin 8) (n : Fin 5460) :
    sl.v1043 c a1 h1 a2 h2 x0 x1 (ix3 b 0 n) = Spec.decode (pred x0 b n) (prior x1 n) 3 := by
  simp only [sl.v1043, sl.v1041, sl.v1040, sl.v1034, sl.v1028, sl.v1021, sl.cst_282, View.readAt_eq_ld, h1.read_unread]
  pointwise
  rw [v64_apply]
  rfl

theorem v1046_apply (b : Fin 8) (n : Fin 5460) :
    sl.v1046 c a1 h1 a2 h2 x0 x1 (ix3 b 0 n) = decoded x0 x1 b n 0 := by
  simp only [sl.v1046, sl.v1045, sl.v1044, sl.cst_35]
  pointwise
  rw [v1027_apply, v1038_apply]
  rfl

theorem v1049_apply (b : Fin 8) (n : Fin 5460) :
    sl.v1049 c a1 h1 a2 h2 x0 x1 (ix3 b 0 n) = decoded x0 x1 b n 1 := by
  simp only [sl.v1049, sl.v1048, sl.v1044, sl.cst_35]
  pointwise
  rw [v1033_apply, v1043_apply]
  rfl

theorem v1052_apply (b : Fin 8) (n : Fin 5460) :
    sl.v1052 c a1 h1 a2 h2 x0 x1 (ix3 b 0 n) = decoded x0 x1 b n 2 := by
  simp only [sl.v1052, sl.v1045, sl.v1044, sl.cst_35]
  pointwise
  rw [v1027_apply, v1038_apply]
  rfl

theorem v1055_apply (b : Fin 8) (n : Fin 5460) :
    sl.v1055 c a1 h1 a2 h2 x0 x1 (ix3 b 0 n) = decoded x0 x1 b n 3 := by
  simp only [sl.v1055, sl.v1048, sl.v1044, sl.cst_35]
  pointwise
  rw [v1033_apply, v1043_apply]
  rfl

/-- The overlap of a decoded prediction and a box. -/
theorem v1084_apply (b o : Fin 8) (n : Fin 5460) :
    sl.v1084 c a1 h1 a2 h2 a3 h3 x0 x1 x2 (ix3 b o n) = Spec.iou (decoded x0 x1 b n) (box x2 b o) := by
  simp only [sl.v1084, sl.v1083, sl.v1081, sl.v1080, sl.v1078, sl.v1077, sl.v1076, sl.v1075, sl.v1074, sl.v1073, sl.v1071,
    sl.v1070, sl.v1068, sl.v1067, sl.v1065, sl.v1064, sl.v1062, sl.v1061, sl.v1059, sl.v1058, sl.v1056, sl.v126, sl.v122,
    sl.v118, sl.v117, sl.v116, sl.v110, sl.v106, sl.v103, sl.v100, sl.v97, sl.cst_41, sl.cst_43]
  pointwise
  rw [r_apply, r_1_apply, r_2_apply, r_3_apply, v1046_apply, v1049_apply, v1052_apply, v1055_apply]
  rfl

/-- The loss of a decoded prediction against a box. -/
theorem v1122_apply (b o : Fin 8) (n : Fin 5460) :
    sl.v1122 c a1 h1 a2 h2 a3 h3 x0 x1 x2 (ix3 b o n) = Spec.loss (decoded x0 x1 b n) (box x2 b o) := by
  simp only [sl.v1122, sl.v1121, sl.v1120, sl.v1118, sl.v1117, sl.v1116, sl.v1115, sl.v1114, sl.v1113, sl.v1112, sl.v1111,
    sl.v1108, sl.v1105, sl.v1102, sl.v1099, sl.v1098, sl.v1097, sl.v1095, sl.v1094, sl.v1093, sl.v1091, sl.v1090, sl.v1088,
    sl.v1087, sl.v1085, sl.v1065, sl.v1062, sl.v1059, sl.v1056, sl.v1044, sl.v126, sl.v106, sl.v103, sl.v100, sl.v97, sl.v79,
    sl.v75, sl.cst_35, sl.cst_43, sl.cst_293]
  pointwise
  rw [r_apply, r_1_apply, r_2_apply, r_3_apply, v1046_apply, v1049_apply, v1052_apply, v1055_apply, v1084_apply, v71_apply,
    v74_apply]
  rfl

section
variable (hq : ∀ n, (prior x1 n 0 ≠ ⊤ ∧ prior x1 n 0 ≠ ⊥) ∧ prior x1 n 1 ≠ ⊤ ∧ prior x1 n 1 ≠ ⊥)
include hq

theorem v1124_apply (b o : Fin 8) (n : Fin 5460) :
    sl.v1124 c a2 h2 a3 h3 x1 x2 (ix3 b o n) = if Match x1 x2 b o n then 1 else 0 := by
  simp only [← v994_apply c a2 h2 a3 h3 x1 x2 b o hq]
  simp only [sl.v1124, sl.v1123]
  pointwise
  exact bit_real _

/-- The numerator of the localization loss. -/
theorem v1133_apply :
    sl.v1133 c a1 h1 a2 h2 a3 h3 x0 x1 x2 (ix2 0 0)
      = ∑ b : Fin 8, ∑ o : Fin 8, ∑ n : Fin 5460, Spec.loss (decoded x0 x1 b n) (box x2 b o) * (if Match x1 x2 b o n then 1 else 0) := by
  simp only [sl.v1133, sl.v1130, sl.v1129, sl.v1128, sl.v1127, sl.v1126, sl.v1125]
  pointwise
  rw [Ideal.reduceAdd_total _ (by decide), sum_idx4, Fin.sum_univ_one]
  pointwise
  simp only [v1124_apply c a2 h2 a3 h3 x1 x2 hq, v1122_apply]

/-- The number of matches. -/
theorem v1137_apply :
    sl.v1137 c a2 h2 a3 h3 x1 x2
      = ∑ b : Fin 8, ∑ o : Fin 8, ∑ n : Fin 5460, (if Match x1 x2 b o n then (1 : EReal) else 0) := by
  simp only [sl.v1137, sl.v1136, sl.v1135, sl.v1134]
  pointwise
  rw [Ideal.reduceAdd_total _ (by decide), sum_idx4, Fin.sum_univ_one]
  pointwise
  simp only [v1124_apply c a2 h2 a3 h3 x1 x2 hq]

end

end Cert.Words

end
-- ==== Proof.RefNear.lean ====
/-
  The reference's distances from every box to every prior, and its 49 candidate priors, read at one box.
-/
module

public import proofs.«01_k».proof.Proof.Gen.ReferenceIdeal.Run
public import proofs.«01_k».proof.Proof.Spec

@[expose] public section

set_option maxRecDepth 16384

noncomputable section

open Idealize.ShloMosaic Idealize.ShloMosaic.TcCoe Idealize.SL.Sem
open Cert.ReferenceIdeal Cert.ReferenceIdeal.Gen Cert.ReferenceIdeal.Value
open scoped Classical

namespace Cert.Ref

variable (V : Valuation τ sig (Elt Ideal))

/-- The prediction of image `b` at prior `n`. -/
def pred (b : Fin 8) (n : Fin 5460) : Fin 4 → EReal := fun k =>
  (V (Proc.devRef .tc main_arg0) : Vec Ideal S8x5460x4 .f32) (ix3 b n k)
/-- The score of class `cl` of image `b` at prior `n`. -/
def score (b : Fin 8) (n : Fin 5460) (cl : Fin 21) : EReal :=
  (V (Proc.devRef .tc main_arg1) : Vec Ideal S8x5460x21 .f32) (ix3 b n cl)
/-- The box `o` of image `b`. -/
def box (b o : Fin 8) : Fin 4 → EReal := fun k =>
  (V (Proc.devRef .tc main_arg2) : Vec Ideal S8x8x4 .f32) (ix3 b o k)
/-- The label of the box `o` of image `b`. -/
def label (b o : Fin 8) : BitVec 32 :=
  (V (Proc.devRef .tc main_arg3) : IVec S8x8 32) (ix2 b o)
/-- The prior `n`. -/
def prior (n : Fin 5460) : Fin 4 → EReal := fun k =>
  (V (Proc.devRef .tc main_arg4) : Vec Ideal S5460x4 .f32) (ix2 n k)

/-- The distances from a box to the priors. -/
def dists (b o : Fin 8) : Fin 5460 → EReal := fun n => Spec.dist (box V b o) (prior V n)

theorem v30_apply (b o : Fin 8) (n : Fin 5460) : res_main_v30 V (ix3 b o n) = dists V b o n := by
  simp only [res_main_v30, res_main_v17, res_main_v27, res_main_v8]
  pointwise
  rfl

theorem minus_one : Ideal.ofBits .f32 0xBF800000#32 = -1 := by
  simp [Ideal.ofBits, Ideal.ieee]
  norm_cast
  norm_num

/-- The places of the first `m` of the negated numbers `e`, greatest first. -/
theorem places {W m : ℕ} (hm : m ≤ W) (x : Vec Ideal ⟨3, ![8, 8, W]⟩ .f32)
    (h : Shape.Slices ⟨3, ![8, 8, W]⟩ (fun _ => 0) ⟨3, ![8, 8, m]⟩) (b o : Fin 8) (k : Fin m) (e : Fin W → EReal)
    (hx : ∀ n, x (ix3 b o n) = -1 * e n) :
    (Host.topK ⟨3, ![8, 8, m]⟩ 2 (FloatOps.cmpfTotal (F := Ideal) (φ := .f32) .gt) x h).2 (ix3 b o k)
      = BitVec.ofNat 32 (Spec.nth e ⟨k, by omega⟩).val := by
  have key : (fun n n' : Fin W => (FloatOps.cmpfTotal (F := Ideal) (φ := .f32) .gt (x (ix3 b o n)) (x (ix3 b o n')) == 1#1))
      = fun n n' => decide (e n < e n') := by
    funext n n'
    rw [hx, hx]
    show (BitVec.ofBool (decide (-1 * e n' < -1 * e n)) == 1#1) = _
    rw [neg_one_mul, neg_one_mul]
    by_cases hlt : e n < e n'
    · rw [decide_eq_true hlt, decide_eq_true (EReal.neg_lt_neg_iff.2 hlt)]; rfl
    · rw [decide_eq_false hlt, decide_eq_false (fun hh => hlt (EReal.neg_lt_neg_iff.1 hh))]; rfl
  have along : ∀ n : Fin W, (ix3 b o (⟨k, by omega⟩ : Fin W) : Shape.Idx ⟨3, ![8, 8, W]⟩).along 2 n = ix3 b o n := by
    intro n
    funext a
    fin_cases a <;> rfl
  have hj : (fun a : Fin 3 => (⟨0 + ((ix3 b o k : Shape.Idx ⟨3, ![8, 8, m]⟩) (a.cast h.1.symm)).val,
      Nat.lt_of_lt_of_le (Nat.add_lt_add_left (Fin.isLt _) _) (h.2 a)⟩ : Fin ((![8, 8, W] : Fin 3 → ℕ) a)))
      = (ix3 b o (⟨k, by omega⟩ : Fin W) : Shape.Idx ⟨3, ![8, 8, W]⟩) := by
    funext a
    refine Fin.ext ?_
    show 0 + _ = _
    rw [Nat.zero_add]
    fin_cases a <;> rfl
  have read : ∀ j : Shape.Idx ⟨3, ![8, 8, W]⟩, (Host.sort2 ⟨3, ![8, 8, W]⟩ 2
        (fun l r : EReal × BitVec 32 => FloatOps.cmpfTotal (F := Ideal) (φ := .f32) .gt l.1 r.1) x
        (fun i => if hd : 2 < 3 then iotaInDim ⟨3, ![8, 8, W]⟩ 32 ⟨2, hd⟩ i else 0#32)).2 j
      = BitVec.ofNat 32 (sortedFrom (fun n n' : Fin W => (FloatOps.cmpfTotal (F := Ideal) (φ := .f32) .gt
          (x (j.along 2 n)) (x (j.along 2 n')) == 1#1)) (j 2)).val := by
    intro j
    show BitVec.ofNat 32 (j.along 2 _ 2).val = _
    exact congrArg (fun z : Fin W => BitVec.ofNat 32 z.val) (Function.update_self (2 : Fin 3) _ j)
  unfold Spec.nth
  rw [← key]
  refine (congrArg _ hj).trans ((read _).trans ?_)
  simp only [along]
  rfl

theorem v33_apply (b o : Fin 8) (n : Fin 4096) :
    res_main_v33 V (ix3 b o n) = -1 * Spec.slice 0 4096 (by omega) (dists V b o) n := by
  simp only [res_main_v33]
  pointwise
  rw [minus_one, v30_apply]
  exact congrArg (fun z => -1 * dists V b o z) (Fin.ext (Nat.zero_add n.val).symm)

theorem v38_apply (b o : Fin 8) (n : Fin 1024) :
    res_main_v38 V (ix3 b o n) = -1 * Spec.slice 4096 1024 (by omega) (dists V b o) n := by
  simp only [res_main_v38]
  pointwise
  rw [minus_one, v30_apply]
  rfl

theorem v43_apply (b o : Fin 8) (n : Fin 256) :
    res_main_v43 V (ix3 b o n) = -1 * Spec.slice 5120 256 (by omega) (dists V b o) n := by
  simp only [res_main_v43]
  pointwise
  rw [minus_one, v30_apply]
  rfl

theorem v48_apply (b o : Fin 8) (n : Fin 64) :
    res_main_v48 V (ix3 b o n) = -1 * Spec.slice 5376 64 (by omega) (dists V b o) n := by
  simp only [res_main_v48]
  pointwise
  rw [minus_one, v30_apply]
  rfl

theorem v53_apply (b o : Fin 8) (n : Fin 16) :
    res_main_v53 V (ix3 b o n) = -1 * Spec.slice 5440 16 (by omega) (dists V b o) n := by
  simp only [res_main_v53]
  pointwise
  rw [minus_one, v30_apply]
  rfl

theorem v58_apply (b o : Fin 8) (n : Fin 4) :
    res_main_v58 V (ix3 b o n) = -1 * Spec.slice 5456 4 (by omega) (dists V b o) n := by
  simp only [res_main_v58]
  pointwise
  rw [minus_one, v30_apply]
  rfl

/-- The sum of two numbers as words. -/
theorem add_word (a b : ℕ) : IntOp.addi (BitVec.ofNat 32 a) (BitVec.ofNat 32 b) = BitVec.ofNat 32 (b + a) := by
  show BitVec.ofNat 32 a + BitVec.ofNat 32 b = _
  rw [← BitVec.ofNat_add, Nat.add_comm]

/-- The six ranges of places, as words. -/
theorem ladder_word (f₁ : Fin 4096 → Fin 4096) (f₂ : Fin 1024 → Fin 1024) (f₃ : Fin 256 → Fin 256) (f₄ : Fin 64 → Fin 64)
    (f₅ : Fin 16 → Fin 16) (f₆ : Fin 4 → Fin 4) (k : Fin 49) :
    (if h : k.val < 9 then BitVec.ofNat 32 (0 + (f₁ ⟨k, by omega⟩).val)
      else if h : k.val - 9 < 9 then BitVec.ofNat 32 (4096 + (f₂ ⟨k - 9, by omega⟩).val)
      else if h : k.val - 9 - 9 < 9 then BitVec.ofNat 32 (5120 + (f₃ ⟨k - 9 - 9, by omega⟩).val)
      else if h : k.val - 9 - 9 - 9 < 9 then BitVec.ofNat 32 (5376 + (f₄ ⟨k - 9 - 9 - 9, by omega⟩).val)
      else if h : k.val - 9 - 9 - 9 - 9 < 9 then BitVec.ofNat 32 (5440 + (f₅ ⟨k - 9 - 9 - 9 - 9, by omega⟩).val)
      else BitVec.ofNat 32 (5456 + (f₆ ⟨k - 9 - 9 - 9 - 9 - 9, by omega⟩).val))
      = BitVec.ofNat 32 (Spec.ladder f₁ f₂ f₃ f₄ f₅ f₆ k).val := by
  unfold Spec.ladder
  by_cases h1 : k.val < 9
  · rw [dif_pos h1, dif_pos h1]
  rw [dif_neg h1, dif_neg h1]
  by_cases h2 : k.val < 18
  · rw [dif_pos (show k.val - 9 < 9 by omega), dif_pos h2]
  rw [dif_neg (show ¬ k.val - 9 < 9 by omega), dif_neg h2]
  by_cases h3 : k.val < 27
  · rw [dif_pos (show k.val - 9 - 9 < 9 by omega), dif_pos h3]
    simp only [Nat.sub_sub]
  rw [dif_neg (show ¬ k.val - 9 - 9 < 9 by omega), dif_neg h3]
  by_cases h4 : k.val < 36
  · rw [dif_pos (show k.val - 9 - 9 - 9 < 9 by omega), dif_pos h4]
    simp only [Nat.sub_sub]
  rw [dif_neg (show ¬ k.val - 9 - 9 - 9 < 9 by omega), dif_neg h4]
  by_cases h5 : k.val < 45
  · rw [dif_pos (show k.val - 9 - 9 - 9 - 9 < 9 by omega), dif_pos h5]
    simp only [Nat.sub_sub]
  rw [dif_neg (show ¬ k.val - 9 - 9 - 9 - 9 < 9 by omega), dif_neg h5]
  simp only [Nat.sub_sub]

/-- The word at place `k` of the reference's candidates is the number of the `k`-th of the 49 nearest priors. -/
theorem v61_apply (b o : Fin 8) (k : Fin 49) :
    res_main_v61 V (ix3 b o k) = BitVec.ofNat 32 (Spec.near (dists V b o) k).val := by
  simp only [res_main_v61]
  pointwise
  unfold Spec.near
  rw [← ladder_word]
  refine dite_congr rfl (fun h => ?_) fun _ => dite_congr rfl (fun h => ?_) fun _ => dite_congr rfl (fun h => ?_) fun _ =>
    dite_congr rfl (fun h => ?_) fun _ => dite_congr rfl (fun h => ?_) fun h => ?_
  · exact (congrArg (IntOp.addi · _) (places (by omega) _ _ b o _ _ (v33_apply V b o))).trans (add_word _ _)
  · exact (congrArg (IntOp.addi · _) (places (by omega) _ _ b o _ _ (v38_apply V b o))).trans (add_word _ _)
  · exact (congrArg (IntOp.addi · _) (places (by omega) _ _ b o _ _ (v43_apply V b o))).trans (add_word _ _)
  · exact (congrArg (IntOp.addi · _) (places (by omega) _ _ b o _ _ (v48_apply V b o))).trans (add_word _ _)
  · exact (congrArg (IntOp.addi · _) (places (by omega) _ _ b o _ _ (v53_apply V b o))).trans (add_word _ _)
  · exact (congrArg (IntOp.addi · _) (places (by omega) _ _ b o _ _ (v58_apply V b o))).trans (add_word _ _)

end Cert.Ref

end
-- ==== Proof.RefMask.lean ====
/-
  The reference's choice among its candidate priors, read at one box: the overlaps, their threshold, the candidates kept,
  and the priors a box is matched to.
-/
module

public import proofs.«01_k».proof.Proof.RefNear
public import Idealize.ShloMosaic.Lib.Tactic.CleanTypes
public import Idealize.ShloMosaic.Lib.Routing.OpsOrder

@[expose] public section

set_option maxRecDepth 16384

noncomputable section

open Idealize.ShloMosaic Idealize.ShloMosaic.TcCoe Idealize.SL.Sem
open Cert.ReferenceIdeal Cert.ReferenceIdeal.Gen Cert.ReferenceIdeal.Value
open scoped Classical

namespace Cert.Ref

variable (V : Valuation τ sig (Elt Ideal))

/-- A place below 5460, written as a word and made positive as an index may be negative, is that place. -/
theorem word_place (n : Fin 5460) :
    Scalar.select (IntOp.cmpi .slt (BitVec.ofNat 32 n.val) 0#32) (IntOp.addi (BitVec.ofNat 32 n.val) 5460#32)
      (BitVec.ofNat 32 n.val) = BitVec.ofNat 32 n.val := by
  have hn := n.isLt
  refine if_neg ?_
  show ¬ BitVec.ofBool ((BitVec.ofNat 32 n.val).slt 0#32) = 1
  have : (BitVec.ofNat 32 n.val).slt 0#32 = false := by
    rw [BitVec.slt_eq_decide]
    have : (BitVec.ofNat 32 n.val).toInt = n.val := by
      rw [BitVec.toInt_eq_toNat_of_lt] <;> rw [BitVec.toNat_ofNat, Nat.mod_eq_of_lt (by omega)]
      omega
    rw [this]
    simp
  rw [this]
  decide

theorem clamp_place (n : Fin 5460) : min (BitVec.ofNat 32 n.val).toInt.toNat (5460 - 1) = n.val := by
  have hn := n.isLt
  have : (BitVec.ofNat 32 n.val).toInt = n.val := by
    rw [BitVec.toInt_eq_toNat_of_lt] <;> rw [BitVec.toNat_ofNat, Nat.mod_eq_of_lt (by omega)]
    omega
  rw [this, Int.toNat_natCast]
  omega

/-- Taking from the numbers of each box and each prior at the places `idx`. -/
theorem take_boxes {α : Type} (x : S8x8x5460.Idx → α) (idx : IVec S8x8x49x1 32) (b o : Fin 8) (k : Fin 49) (n : Fin 5460)
    (h : idx (ix4 b o k 0) = BitVec.ofNat 32 n.val) :
    Host.gather gather_S8x8x5460_S8x8x49x1_S8x8x49_n_2_01_01_2_3_111 x idx (ix3 b o k) = x (ix3 b o n) := by
  unfold Host.gather
  refine congrArg x (funext fun a => Fin.ext ?_)
  fin_cases a
  · show 0 + b.val + 0 = b.val
    omega
  · show 0 + o.val + 0 = o.val
    omega
  · show min (idx _).toInt.toNat (5460 - 1) + 0 + 0 = n.val
    rw [show _ = idx (ix4 b o k 0) from congrArg idx (funext fun a => Fin.ext (by fin_cases a <;> rfl)), h, clamp_place,
      Nat.add_zero]

/-- Taking rows of the priors at the places `idx`. -/
theorem take_priors {α : Type} (x : S5460x4.Idx → α) (idx : IVec S8x8x49x1 32) (b o : Fin 8) (k : Fin 49) (q : Fin 4)
    (n : Fin 5460) (h : idx (ix4 b o k 0) = BitVec.ofNat 32 n.val) :
    Host.gather gather_S5460x4_S8x8x49x1_S8x8x49x4_3_0_n_n_0_3_14 x idx (ix4 b o k q) = x (ix2 n q) := by
  unfold Host.gather
  refine congrArg x (funext fun a => Fin.ext ?_)
  fin_cases a
  · show min (idx _).toInt.toNat (5460 - 1) + 0 + 0 = n.val
    rw [show _ = idx (ix4 b o k 0) from congrArg idx (funext fun a => Fin.ext (by fin_cases a <;> rfl)), h, clamp_place,
      Nat.add_zero]
  · show 0 + 0 + q.val = q.val
    omega

/-- Taking rows of each image's decoded boxes at the places `idx`. -/
theorem take_preds {α : Type} (x : S8x5460x4.Idx → α) (idx : IVec S8x8x49x1 32) (b o : Fin 8) (k : Fin 49) (q : Fin 4)
    (n : Fin 5460) (h : idx (ix4 b o k 0) = BitVec.ofNat 32 n.val) :
    Host.gather gather_S8x5460x4_S8x8x49x1_S8x8x49x4_3_1_0_0_1_3_114 x idx (ix4 b o k q) = x (ix3 b n q) := by
  unfold Host.gather
  refine congrArg x (funext fun a => Fin.ext ?_)
  fin_cases a
  · show 0 + b.val + 0 = b.val
    omega
  · show min (idx _).toInt.toNat (5460 - 1) + 0 + 0 = n.val
    rw [show _ = idx (ix4 b o k 0) from congrArg idx (funext fun a => Fin.ext (by fin_cases a <;> rfl)), h, clamp_place,
      Nat.add_zero]
  · show 0 + 0 + q.val = q.val
    omega

/-- The candidate priors of a box. -/
def cand (b o : Fin 8) (k : Fin 49) : Fin 5460 := Spec.near (dists V b o) k

/-- The overlaps of a box with its candidate priors. -/
def overlaps (b o : Fin 8) (k : Fin 49) : EReal := Spec.iou (box V b o) (Spec.corners (prior V (cand V b o k)))

theorem v93_apply (b o : Fin 8) (n : Fin 5460) :
    res_main_v93 V (ix3 b o n) = Spec.inter (box V b o) (Spec.corners (prior V n)) := by
  simp only [res_main_v93, res_main_v88, res_main_v72, id]
  pointwise
  rfl

theorem v124_apply (b o : Fin 8) (k : Fin 49) : res_main_v124 V (ix3 b o k) = overlaps V b o k := by
  simp only [res_main_v124]
  refine (take_boxes _ _ b o k (cand V b o k) ?_).trans ?_
  · pointwise
    rw [v61_apply]
    exact word_place _
  · simp only [res_main_v72]
    pointwise
    rw [v93_apply]
    rfl

theorem v136_apply (b o : Fin 8) (k : Fin 49) (q : Fin 4) :
    res_main_v136 V (ix4 b o k q) = prior V (cand V b o k) q := by
  simp only [res_main_v136]
  refine (take_priors _ _ b o k q (cand V b o k) ?_).trans ?_
  · pointwise
    rw [v61_apply]
    exact word_place _
  · rfl

theorem c49_eq : Spec.c49 = ((49 : ℝ) : EReal) := by
  unfold Spec.c49
  simp [Ideal.ofBits, Ideal.ieee]
  norm_cast
  norm_num

theorem c48_eq : Spec.c48 = ((48 : ℝ) : EReal) := by
  unfold Spec.c48
  simp [Ideal.ofBits, Ideal.ieee]
  norm_cast
  norm_num

/-- One less than the number of candidates. -/
theorem dof : Spec.c49 - FloatOps.sitofp (F := Ideal) .f32 (1#32) = Spec.c48 := by
  rw [c49_eq, c48_eq]
  show ((49 : ℝ) : EReal) - (((1#32 : BitVec 32).toInt : ℝ) : EReal) = _
  rw [← EReal.coe_sub]
  norm_num

theorem c48_pos : 0 < Spec.c48 := by
  rw [c48_eq]
  exact EReal.coe_pos.2 (by norm_num)

theorem and_bit (p q : BitVec 1) : IntOp.andi p q = 1#1 ↔ p = 1#1 ∧ q = 1#1 := by
  revert p q
  decide

theorem bool_bit (p : Prop) [Decidable p] : BitVec.ofBool (decide p) = 1#1 ↔ p := by
  by_cases h : p <;> simp [h]

/-- A candidate is kept when its overlap passes the threshold and its centre lies in the box. -/
theorem v171_apply (b o : Fin 8) (k : Fin 49) : res_main_v171 V (ix3 b o k) = 1#1 ↔
    Spec.good (Spec.thr (overlaps V b o)) (box V b o) (prior V (cand V b o k)) := by
  simp only [res_main_v171, res_main_call3_call0_v5, res_main_call3_call0_v8]
  pointwise
  simp only [v124_apply, v136_apply]
  rw [show Ideal.ofBits FTy.f32 1111752704#32 = Spec.c49 from rfl, dof, if_pos c48_pos]
  clean_types
  simp only [and_bit, bool_bit]
  unfold Spec.good Spec.inside
  simp only [and_assoc]
  exact Iff.rfl

/-- Places below 5460 are equal when their words are. -/
theorem same_word (m n : Fin 5460) :
    IntOp.cmpi .eq (BitVec.ofNat 32 m.val) (BitVec.ofNat 32 n.val) = 1#1 ↔ m = n := by
  have hm := m.isLt
  have hn := n.isLt
  show BitVec.ofBool (BitVec.ofNat 32 m.val == BitVec.ofNat 32 n.val) = 1#1 ↔ _
  by_cases h : m = n
  · subst h
    simp
  · have : BitVec.ofNat 32 m.val ≠ BitVec.ofNat 32 n.val := fun hh => h (Fin.ext (by
      have := congrArg BitVec.toNat hh
      rwa [BitVec.toNat_ofNat, BitVec.toNat_ofNat, Nat.mod_eq_of_lt (by omega), Nat.mod_eq_of_lt (by omega)] at this))
    rw [beq_eq_false_iff_ne.2 this]
    exact ⟨fun hh => absurd hh (by decide), fun hh => absurd hh h⟩

/-- The reference's matching of priors to boxes. -/
theorem v181_apply (b o : Fin 8) (n : Fin 5460) : res_main_v181 V (ix3 b o n) = 1#1 ↔
    ∃ k, cand V b o k = n ∧ Spec.good (Spec.thr (overlaps V b o)) (box V b o) (prior V (cand V b o k)) := by
  simp only [res_main_v181]
  clean_types
  rw [Host.reduce_eq_fold_single IntOp.ori (h := show Shape.Reduces S8x8x49x5460 [2] S8x8x5460 by decide)]
  refine (Routing.fold_ori _ _).trans (exists_congr fun k => (and_iff_right (Finset.mem_univ _)).trans ?_)
  rw [Function.comp_apply, show (Shape.Reduces.lift _ (ix3 b o n) k : S8x8x49x5460.Idx) = ix4 b o k n from
    funext fun a => by fin_cases a <;> rfl]
  pointwise
  clean_types
  refine (and_bit _ _).trans (and_congr ?_ (v171_apply V b o k))
  rw [show res_main_v61 V (ix3 b o k) = _ from v61_apply V b o k]
  exact same_word _ _

end Cert.Ref

end
-- ==== Proof.RefLoss.lean ====
/-
  The reference's localisation loss of the candidate priors, read at one box and one candidate.
-/
module

public import proofs.«01_k».proof.Proof.RefMask

@[expose] public section

set_option maxRecDepth 16384

noncomputable section

open Idealize.ShloMosaic Idealize.ShloMosaic.TcCoe Idealize.SL.Sem
open Cert.ReferenceIdeal Cert.ReferenceIdeal.Gen Cert.ReferenceIdeal.Value
open scoped Classical

namespace Cert.Ref

variable (V : Valuation τ sig (Elt Ideal))

/-- The predicted box of image `b` at prior `n`, by its corners. -/
def decoded (b : Fin 8) (n : Fin 5460) : Fin 4 → EReal := Spec.corners (Spec.decode (pred V b n) (prior V n))

/-- One for a candidate kept, nothing for another. -/
def kept (b o : Fin 8) (k : Fin 49) : EReal :=
  if Spec.good (Spec.thr (overlaps V b o)) (box V b o) (prior V (cand V b o k)) then 1 else 0

theorem v266_apply (b o : Fin 8) (k : Fin 49) (q : Fin 4) :
    res_main_v266 V (ix4 b o k q) = decoded V b (cand V b o k) q := by
  simp only [res_main_v266]
  refine (take_preds _ _ b o k q (cand V b o k) ?_).trans ?_
  · pointwise
    rw [v61_apply]
    exact word_place _
  · simp only [res_main_v248, res_main_v231]
    fin_cases q <;> · pointwise; rfl

theorem v268_apply (b o : Fin 8) (k : Fin 49) (q : Fin 4) : res_main_v268 V (ix4 b o k q) = box V b o q := by
  simp only [res_main_v268]
  pointwise
  rfl

theorem v281_apply (b o : Fin 8) (k : Fin 49) :
    res_main_v281 V (ix3 b o k) = Spec.inter (decoded V b (cand V b o k)) (box V b o) := by
  simp only [res_main_v281, res_main_v276, id]
  pointwise
  simp only [v266_apply, v268_apply]
  rfl

theorem bit_number (p : BitVec 1) : FloatOps.uitofp (F := Ideal) .f32 p = if p = 1#1 then 1 else 0 := by
  show (((p.toNat : ℕ) : ℝ) : EReal) = _
  have : p = 0#1 ∨ p = 1#1 := by revert p; decide
  rcases this with rfl | rfl <;> simp

theorem v335_apply (b o : Fin 8) (k : Fin 49) : res_main_v335 V (ix3 b o k) = kept V b o k := by
  simp only [res_main_v335, kept, ← v171_apply]
  pointwise
  exact bit_number _

theorem v318_0 (b o : Fin 8) (k : Fin 49) : res_main_v318 V (ix4 b o k 0)
    = Ideal.div (decoded V b (cand V b o k) 0 + decoded V b (cand V b o k) 2) Spec.two
      - Ideal.div (box V b o 0 + box V b o 2) Spec.two := by
  simp only [res_main_v318]
  pointwise
  simp only [v266_apply, v268_apply]
  rfl

theorem v327_0 (b o : Fin 8) (k : Fin 49) : res_main_v327 V (ix4 b o k 0)
    = max (decoded V b (cand V b o k) 2) (box V b o 2) - min (decoded V b (cand V b o k) 0) (box V b o 0) := by
  simp only [res_main_v327]
  pointwise
  simp only [v266_apply, v268_apply]

theorem v318_1 (b o : Fin 8) (k : Fin 49) : res_main_v318 V (ix4 b o k 1)
    = Ideal.div (decoded V b (cand V b o k) 1 + decoded V b (cand V b o k) 3) Spec.two
      - Ideal.div (box V b o 1 + box V b o 3) Spec.two := by
  simp only [res_main_v318]
  pointwise
  simp only [v266_apply, v268_apply]
  rfl

theorem v327_1 (b o : Fin 8) (k : Fin 49) : res_main_v327 V (ix4 b o k 1)
    = max (decoded V b (cand V b o k) 3) (box V b o 3) - min (decoded V b (cand V b o k) 1) (box V b o 1) := by
  simp only [res_main_v327]
  pointwise
  simp only [v266_apply, v268_apply]

end Cert.Ref

end
-- ==== Proof.Labels.lean ====
/-
  The label that every prior receives: that of the last of the boxes it matches.
-/
module

public import proofs.«01_k».proof.Proof.LocLoss
public import Idealize.ShloMosaic.Lib.SortNet.Extract

@[expose] public section

set_option maxRecDepth 16384

noncomputable section

open Idealize.ShloMosaic Idealize.ShloMosaic.TcCoe Idealize.SL.Sem
open Cert.KernelIdeal Cert.KernelIdeal.Gen Cert.Pick
open scoped Classical

namespace Cert.Spec

/-- The label of the last box that matches, 0 if none does. -/
def label (M : Fin 8 → Prop) (l : Fin 8 → BitVec 32) : BitVec 32 :=
  if M 7 then l 7 else if M 6 then l 6 else if M 5 then l 5 else if M 4 then l 4 else if M 3 then l 3 else if M 2 then l 2
    else if M 1 then l 1 else if M 0 then l 0 else 0

/-- The number whose greatest value over the boxes names the last match, and whose low five bits are its label. -/
def tag (M : Fin 8 → Prop) (l : Fin 8 → BitVec 32) (o : Fin 8) : BitVec 32 := if M o then BitVec.ofNat 32 o * 32#32 + l o else 0

theorem label_cases (M : Fin 8 → Prop) (l : Fin 8 → BitVec 32) :
    (∃ o, M o ∧ (∀ o' : Fin 8, o.val < o'.val → ¬ M o') ∧ label M l = l o) ∨ ((∀ o, ¬ M o) ∧ label M l = 0) := by
  have key : ∀ o : Fin 8, M o → (∀ o' : Fin 8, o.val < o'.val → ¬ M o') → label M l = l o := by
    intro o ho h
    unfold label
    fin_cases o
    · rw [if_neg (h 7 (by decide)), if_neg (h 6 (by decide)), if_neg (h 5 (by decide)), if_neg (h 4 (by decide)),
        if_neg (h 3 (by decide)), if_neg (h 2 (by decide)), if_neg (h 1 (by decide)), if_pos (show M 0 from ho)]
      rfl
    · rw [if_neg (h 7 (by decide)), if_neg (h 6 (by decide)), if_neg (h 5 (by decide)), if_neg (h 4 (by decide)),
        if_neg (h 3 (by decide)), if_neg (h 2 (by decide)), if_pos (show M 1 from ho)]
      rfl
    · rw [if_neg (h 7 (by decide)), if_neg (h 6 (by decide)), if_neg (h 5 (by decide)), if_neg (h 4 (by decide)),
        if_neg (h 3 (by decide)), if_pos (show M 2 from ho)]
      rfl
    · rw [if_neg (h 7 (by decide)), if_neg (h 6 (by decide)), if_neg (h 5 (by decide)), if_neg (h 4 (by decide)), if_pos (show M 3 from ho)]
      rfl
    · rw [if_neg (h 7 (by decide)), if_neg (h 6 (by decide)), if_neg (h 5 (by decide)), if_pos (show M 4 from ho)]
      rfl
    · rw [if_neg (h 7 (by decide)), if_neg (h 6 (by decide)), if_pos (show M 5 from ho)]
      rfl
    · rw [if_neg (h 7 (by decide)), if_pos (show M 6 from ho)]
      rfl
    · rw [if_pos (show M 7 from ho)]
      rfl
  by_cases hne : ∃ o, M o
  · left
    obtain ⟨o, ho, hmax⟩ := Finset.exists_max_image (Finset.univ.filter M) Fin.val (by
      obtain ⟨o, ho⟩ := hne
      exact ⟨o, by simpa using ho⟩)
    have hM : M o := by simpa using ho
    have hlast : ∀ o' : Fin 8, o.val < o'.val → ¬ M o' := fun o' hlt hM' => by
      have := hmax o' (by simpa using hM')
      omega
    exact ⟨o, hM, hlast, key o hM hlast⟩
  · right
    have hno : ∀ o, ¬ M o := fun o ho => hne ⟨o, ho⟩
    refine ⟨hno, ?_⟩
    unfold label
    rw [if_neg (hno 7), if_neg (hno 6), if_neg (hno 5), if_neg (hno 4), if_neg (hno 3), if_neg (hno 2), if_neg (hno 1),
      if_neg (hno 0)]

theorem and_tag (M : Fin 8 → Prop) (l : Fin 8 → BitVec 32) (hl : ∀ o, (l o).toNat < 32) (i : Fin 8)
    (hi : ∀ o, (tag M l o).toInt ≤ (tag M l i).toInt) : tag M l i &&& 31 = label M l := by
  have ht : ∀ o, (BitVec.ofNat 32 o.val * 32#32 + l o).toNat = 32 * o.val + (l o).toNat := by
    intro o
    have := hl o
    have := o.isLt
    simp only [BitVec.toNat_add, BitVec.toNat_mul, BitVec.toNat_ofNat]
    rw [Nat.mod_eq_of_lt (show o.val < 2 ^ 32 by omega), Nat.mod_eq_of_lt (show 32 < 2 ^ 32 by omega)]
    omega
  have hg : ∀ o, (tag M l o).toNat = if M o then 32 * o.val + (l o).toNat else 0 := by
    intro o
    unfold tag
    by_cases h : M o
    · rw [if_pos h, if_pos h, ht]
    · rw [if_neg h, if_neg h]; rfl
  have hn : ∀ o, (tag M l o).toNat ≤ (tag M l i).toNat := by
    have hs : ∀ o, (tag M l o).toInt = (tag M l o).toNat := by
      intro o
      have := hg o
      have := hl o
      have := o.isLt
      rw [BitVec.toInt_eq_toNat_of_lt]
      split at * <;> omega
    intro o
    have := hi o
    rw [hs, hs] at this
    exact_mod_cast this
  have hm : (tag M l i &&& 31).toNat = (tag M l i).toNat % 32 := by
    rw [BitVec.toNat_and]
    exact Nat.and_two_pow_sub_one_eq_mod _ 5
  refine BitVec.eq_of_toNat_eq (hm.trans ?_)
  simp only [hg] at hn ⊢
  rcases label_cases M l with ⟨o, ho, hlast, e⟩ | ⟨hno, e⟩
  · rw [e]
    have h := hn o
    have hlo := hl o
    have hli := hl i
    rw [if_pos ho] at h
    by_cases hMi : M i
    · rw [if_pos hMi] at h ⊢
      have : i = o := by
        rcases lt_trichotomy i.val o.val with hlt | heq | hgt
        · omega
        · exact Fin.ext heq
        · exact absurd hMi (hlast i hgt)
      subst this
      omega
    · rw [if_neg hMi] at h ⊢
      omega
  · rw [e, if_neg (hno i)]
    rfl

/-- The low five bits of the greatest tag are the label of the last match. -/
theorem fold_tag (M : Fin 8 → Prop) (l : Fin 8 → BitVec 32) (hl : ∀ o, (l o).toNat < 32) :
    Finset.univ.fold IntOp.maxsi (2147483648#32) (tag M l) &&& 31 = label M l := by
  obtain ⟨-, h2, h3⟩ := SortNet.fold_maxsi_spec (tag M l) Finset.univ (2147483648#32)
  rcases h3 with h3 | ⟨i, -, h3⟩
  · exfalso
    have h := h2 0 (Finset.mem_univ _)
    rw [h3] at h
    have := hl 0
    unfold tag at h
    split at h
    · have : (BitVec.ofNat 32 (0 : Fin 8).val * 32#32 + l 0).toInt = (l 0).toNat := by
        rw [BitVec.toInt_eq_toNat_of_lt] <;> simp <;> omega
      rw [this] at h
      have : (2147483648#32 : BitVec 32).toInt < 0 := by decide
      omega
    · exact absurd h (by decide)
  · rw [h3]
    exact and_tag M l hl i fun o => h3 ▸ h2 o (Finset.mem_univ _)

end Cert.Spec

namespace Cert.Words

open kernelRun0_A

variable (c : Dev nD) (a2 : Memref sig .tc .vmem S4x5460 .f32) (h2 : a2.IsWhole)
  (a3 : Memref sig .tc .vmem S8x8x4 .f32) (h3 : a3.IsWhole) (a4 : Memref sig .tc .vmem S8x8x1 .f32) (h4 : a4.IsWhole)
  (x1 : Vec Ideal S4x5460 .f32) (x2 : Vec Ideal S8x8x4 .f32) (x3 : Vec Ideal S8x8x1 .f32)

/-- A word below 32, as a float and back. -/
theorem fptosi_word (w : BitVec 32) (h : w.toNat < 32) : Ideal.fptosi 32 ((w.toInt : ℝ) : EReal) = w := by
  rw [Ideal.fptosi, Ideal.toIntClamped_coe]
  have e : w.toInt = (w.toNat : ℤ) := BitVec.toInt_eq_toNat_of_lt (by omega)
  have hnn : (0 : ℝ) ≤ (w.toInt : ℝ) := by
    rw [e]; positivity
  rw [if_pos hnn, Int.floor_intCast, e]
  rw [max_eq_right, min_eq_right]
  · exact BitVec.eq_of_toNat_eq (by simp)
  · norm_num; omega
  · refine le_min ?_ ?_ <;> norm_num <;> omega

variable (hq : ∀ n, (prior x1 n 0 ≠ ⊤ ∧ prior x1 n 0 ≠ ⊥) ∧ prior x1 n 1 ≠ ⊤ ∧ prior x1 n 1 ≠ ⊥)
  (l : Fin 8 → Fin 8 → BitVec 32) (hl : ∀ b o, (l b o).toNat < 32) (hx : ∀ b o, x3 (ix3 b o 0) = (((l b o).toInt : ℝ) : EReal))
include hq hl hx

theorem v1006_apply (b o : Fin 8) (n : Fin 5460) :
    sl.v1006 c a2 h2 a3 h3 a4 h4 x1 x2 x3 (ix3 b o n) = Spec.tag (fun o => Match x1 x2 b o n) (l b) o := by
  simp only [sl.v1006, sl.v1005, sl.v1004, sl.v1003, sl.v1002, sl.v1001, sl.v999, sl.v998, sl.v997, sl.v996, View.readAt_eq_ld, h4.read_unread]
  pointwise
  rw [hx, show ∀ x, FloatOps.fptosi (F := Ideal) (φ := FTy.f32) 32 x = Ideal.fptosi 32 x from fun _ => rfl, fptosi_word _ (hl b o)]
  unfold Spec.tag Scalar.select
  by_cases hm : Match x1 x2 b o n
  · rw [if_pos hm]
    exact if_pos ((v994_apply c a2 h2 a3 h3 x1 x2 b o hq n).2 hm)
  · rw [if_neg hm]
    exact if_neg fun h => hm ((v994_apply c a2 h2 a3 h3 x1 x2 b o hq n).1 h)

theorem v1013_apply (b : Fin 8) (n : Fin 5460) :
    sl.v1013 c a2 h2 a3 h3 a4 h4 x1 x2 x3 (ix2 b n) = (((Spec.label (fun o => Match x1 x2 b o n) (l b)).toInt : ℝ) : EReal) := by
  simp only [sl.v1013, sl.v1010, sl.v1009, sl.v1008, sl.v1007]
  pointwise
  simp only [v1006_apply c a2 h2 a3 h3 a4 h4 x1 x2 x3 hq l hl hx]
  exact congrArg (fun w : BitVec 32 => ((w.toInt : ℝ) : EReal)) (Spec.fold_tag _ _ (hl b))

end Cert.Words

end
-- ==== Proof.RefConf.lean ====
/-
  The reference's classification loss, and its whole result.
-/
module

public import proofs.«01_k».proof.Proof.RefLoss
public import proofs.«01_k».proof.Proof.Focal
public import proofs.«01_k».proof.Proof.Labels

@[expose] public section

set_option maxRecDepth 16384

noncomputable section

open Idealize.ShloMosaic Idealize.ShloMosaic.TcCoe Idealize.SL.Sem
open Cert.ReferenceIdeal Cert.ReferenceIdeal.Gen Cert.ReferenceIdeal.Value
open scoped Classical

namespace Cert.Ref

variable (V : Valuation τ sig (Elt Ideal))

/-- The prior `n` is a candidate of the box `o` that is kept. -/
def Match (b o : Fin 8) (n : Fin 5460) : Prop :=
  ∃ k, cand V b o k = n ∧ Spec.good (Spec.thr (overlaps V b o)) (box V b o) (prior V (cand V b o k))

/-- One at the class of a prior, nothing at another. -/
def hot (b : Fin 8) (n : Fin 5460) (cl : Fin 21) : EReal :=
  if Spec.label (fun o => Match V b o n) (label V b) = BitVec.ofNat 32 cl.val then 1 else 0

theorem word_bit (x y : BitVec 32) : IntOp.cmpi .eq x y = 1#1 ↔ x = y := by
  show BitVec.ofBool (x == y) = 1#1 ↔ _
  by_cases h : x = y
  · subst h
    simp
  · rw [beq_eq_false_iff_ne.2 h]
    exact ⟨fun hh => absurd hh (by decide), fun hh => absurd hh h⟩

theorem select_if (c : BitVec 1) (x y : BitVec 32) [Decidable (c = 1#1)] :
    Scalar.select c x y = if c = 1#1 then x else y := by
  by_cases h : c = 1#1
  · rw [if_pos h]
    exact if_pos h
  · rw [if_neg h]
    exact if_neg h

theorem v341_apply (b : Fin 8) (n : Fin 5460) (cl : Fin 21) : res_main_v341 V (ix3 b n cl) = hot V b n cl := by
  simp only [hot, Match, ← v181_apply, Spec.label]
  simp only [res_main_v341]
  pointwise
  refine (bit_number _).trans ?_
  refine if_congr ((word_bit _ _).trans ?_) rfl rfl
  refine iff_of_eq (congrArg (· = BitVec.ofNat 32 cl.val) ?_)
  refine (select_if _ _ _).trans (if_congr Iff.rfl rfl ?_)
  refine (select_if _ _ _).trans (if_congr Iff.rfl rfl ?_)
  refine (select_if _ _ _).trans (if_congr Iff.rfl rfl ?_)
  refine (select_if _ _ _).trans (if_congr Iff.rfl rfl ?_)
  refine (select_if _ _ _).trans (if_congr Iff.rfl rfl ?_)
  refine (select_if _ _ _).trans (if_congr Iff.rfl rfl ?_)
  refine (select_if _ _ _).trans (if_congr Iff.rfl rfl ?_)
  refine (select_if _ _ _).trans (if_congr Iff.rfl rfl ?_)
  rfl

theorem v347_apply (b : Fin 8) (n : Fin 5460) (cl : Fin 21) :
    res_main_v347 V (ix3 b n cl) = Ideal.div 1 (1 + Ideal.exp (-score V b n cl)) := by
  simp only [res_main_v347]
  pointwise
  rfl

/-- The reference's result. -/
theorem result : ((val8 V (Proc.devRef .tc main_v381) : Vec Ideal S1x1 .f32) (ix2 0 0) : EReal)
    = Ideal.div (∑ b : Fin 8, ∑ n : Fin 5460, ∑ cl : Fin 21, Spec.focal (score V b n cl) (hot V b n cl))
        (Ideal.ofBits FTy.f32 0x472AA000#32)
      + Ideal.div (∑ b : Fin 8, ∑ o : Fin 8, ∑ k : Fin 49,
          Spec.loss (decoded V b (cand V b o k)) (box V b o) * kept V b o k)
        (max (∑ b : Fin 8, ∑ o : Fin 8, ∑ k : Fin 49, kept V b o k) 1) := by
  rw [show val8 V (Proc.devRef .tc main_v381) = _ from val8_main_v381 V]
  simp only [id]
  pointwise
  simp only [v281_apply, v266_apply, v268_apply, Fin.sum_univ_two, v318_0, v318_1, v327_0, v327_1, v335_apply, v341_apply,
    v347_apply]
  rfl

end Cert.Ref

end
-- ==== Proof.Equal.lean ====
/-
  The kernel's result is the reference's.
-/
module

public import proofs.«01_k».proof.Proof.Steps
public import proofs.«01_k».proof.Proof.Inputs
public import proofs.«01_k».proof.Proof.Pairs
public import proofs.«01_k».proof.Proof.Finite
public import proofs.«01_k».proof.Proof.LocLoss
public import proofs.«01_k».proof.Proof.RefConf

@[expose] public section

set_option maxRecDepth 16384

noncomputable section

open Idealize.ShloMosaic Idealize.ShloMosaic.TcCoe Idealize.SL.Sem
open Cert.KernelIdeal Cert.KernelIdeal.Gen
open scoped Classical

namespace Cert.Equal

variable (m : (ℓ : Loc nD τ sig) → Buf (Elt Ideal) ℓ) (c : Dev nD)
variable (W : Valuation Cert.ReferenceIdeal.τ Cert.ReferenceIdeal.sig (Elt Ideal))

/-- The reference's five arguments are the kernel's. -/
def Same : Prop :=
  W (Proc.devRef .tc Cert.ReferenceIdeal.main_arg0) = m ((c : Thread nD τ).loc main_arg0)
    ∧ W (Proc.devRef .tc Cert.ReferenceIdeal.main_arg1) = m ((c : Thread nD τ).loc main_arg1)
    ∧ W (Proc.devRef .tc Cert.ReferenceIdeal.main_arg2) = m ((c : Thread nD τ).loc main_arg2)
    ∧ W (Proc.devRef .tc Cert.ReferenceIdeal.main_arg3) = m ((c : Thread nD τ).loc main_arg3)
    ∧ W (Proc.devRef .tc Cert.ReferenceIdeal.main_arg4) = m ((c : Thread nD τ).loc main_arg4)

variable {m c W} (hs : Same m c W)

include hs

theorem pred_eq (t : Fin cfg0.N) : Words.pred (iblk m c 0 t) = Ref.pred W := by
  funext b n k
  exact (Inputs.preds m c t b k n).trans (congrFun hs.1.symm _)

theorem prior_eq (t : Fin cfg0.N) : Words.prior (iblk m c 1 t) = Ref.prior W := by
  funext n k
  exact (Inputs.priors m c t k n).trans (congrFun hs.2.2.2.2.symm _)

theorem box_eq (t : Fin cfg0.N) : Words.box (iblk m c 2 t) = Ref.box W := by
  funext b o k
  exact (Inputs.boxes m c t b o k).trans (congrFun hs.2.2.1.symm _)

theorem label_eq (t : Fin cfg0.N) (b o : Fin 8) :
    (iblk m c 3 t : Vec Ideal S8x8x1 .f32) (ix3 b o 0) = (((Ref.label W b o).toInt : ℝ) : EReal) :=
  (Inputs.classes m c t b o).trans
    (congrArg (fun l : BitVec 32 => ((l.toInt : ℝ) : EReal)) (congrFun (show (_ : IVec S8x8 32) = _ from hs.2.2.2.1).symm (ix2 b o)))

theorem score_eq (t : Fin cfg0.N) (cl : Fin 21) (n : Fin 5460) :
    (iblk m c 4 t : Vec Ideal S1x21x5460 .f32) (ix3 0 cl n) = Ref.score W ⟨t.val, lt_of_lt_of_eq t.isLt N_0⟩ n cl :=
  (Inputs.scores m c t cl n).trans (congrFun hs.2.1.symm _)

theorem dists_eq (t : Fin cfg0.N) : Words.dists (iblk m c 1 t) (iblk m c 2 t) = Ref.dists W := by
  funext b o n
  unfold Words.dists Ref.dists
  rw [prior_eq hs, box_eq hs]

theorem overlaps_eq (t : Fin cfg0.N) : Words.overlaps (iblk m c 1 t) (iblk m c 2 t) = Ref.overlaps W := by
  funext b o k
  unfold Words.overlaps Ref.overlaps Ref.cand
  rw [prior_eq hs, box_eq hs, dists_eq hs]

theorem decoded_eq (t : Fin cfg0.N) : Words.decoded (iblk m c 0 t) (iblk m c 1 t) = Ref.decoded W := by
  funext b n
  unfold Words.decoded Ref.decoded
  rw [prior_eq hs, pred_eq hs]

/-- What the kernel's mask says, over the reference's names. -/
theorem match_eq (t : Fin cfg0.N) (b o : Fin 8) (n : Fin 5460) :
    Words.Match (iblk m c 1 t) (iblk m c 2 t) b o n
      = ((∃ k, Spec.near (Ref.dists W b o) k = n) ∧ Spec.good (Spec.thr (Ref.overlaps W b o)) (Ref.box W b o) (Ref.prior W n)) := by
  unfold Words.Match
  rw [prior_eq hs, box_eq hs, dists_eq hs, overlaps_eq hs]

/-- The two programs match the same priors to a box. -/
theorem match_iff (t : Fin cfg0.N) (b o : Fin 8) (n : Fin 5460) :
    Words.Match (iblk m c 1 t) (iblk m c 2 t) b o n = Ref.Match W b o n := by
  rw [match_eq hs]
  refine propext ⟨fun ⟨⟨k, hk⟩, hg⟩ => ⟨k, hk, ?_⟩, fun ⟨k, hk, hg⟩ => ⟨⟨k, hk⟩, ?_⟩⟩
  · rw [show Ref.cand W b o k = n from hk]
    exact hg
  · rw [show Ref.cand W b o k = n from hk] at hg
    exact hg

variable (hq : ∀ n, (Ref.prior W n 0 ≠ ⊤ ∧ Ref.prior W n 0 ≠ ⊥) ∧ Ref.prior W n 1 ≠ ⊤ ∧ Ref.prior W n 1 ≠ ⊥) (hl : ∀ b o, (Ref.label W b o).toNat < 32)

include hq

theorem num_eq : Steps.num m c (ix2 0 0) = ∑ b : Fin 8, ∑ o : Fin 8, ∑ k : Fin 49,
    Spec.loss (Ref.decoded W b (Ref.cand W b o k)) (Ref.box W b o) * Ref.kept W b o k := by
  unfold Steps.num
  rw [Words.v1133_apply (hq := by rw [prior_eq hs]; exact hq)]
  refine Finset.sum_congr rfl fun b _ => Finset.sum_congr rfl fun o _ => ?_
  simp only [match_eq hs, decoded_eq hs, box_eq hs]
  exact Spec.sum_near_and (Ref.dists W b o) (fun n => Spec.loss (Ref.decoded W b n) (Ref.box W b o))
    (fun n => Spec.good (Spec.thr (Ref.overlaps W b o)) (Ref.box W b o) (Ref.prior W n))

theorem den_eq : Steps.den m c (ix2 0 0) = ∑ b : Fin 8, ∑ o : Fin 8, ∑ k : Fin 49, Ref.kept W b o k := by
  unfold Steps.den
  rw [Conf.pay117_apply, Words.v1137_apply (hq := by rw [prior_eq hs]; exact hq)]
  refine Finset.sum_congr rfl fun b _ => Finset.sum_congr rfl fun o _ => ?_
  simp only [match_eq hs]
  exact Spec.count_near_and (Ref.dists W b o)
    (fun n => Spec.good (Spec.thr (Ref.overlaps W b o)) (Ref.box W b o) (Ref.prior W n))

include hl

theorem labels_eq (b : Fin 8) (n : Fin 5460) :
    Steps.labels m c (ix2 b n) = (((Spec.label (fun o => Ref.Match W b o n) (Ref.label W b)).toInt : ℝ) : EReal) := by
  unfold Steps.labels
  rw [Words.v1013_apply (hq := by rw [prior_eq hs]; exact hq) (l := Ref.label W) (hl := hl) (hx := label_eq hs Steps.first)]
  simp only [match_iff hs]

omit hs hq hl in
/-- The row of the labels a step reads is its image's. -/
theorem row_apply (t : Fin cfg0.N) (w : Vec Ideal S8x5460 .f32) (n : Fin 5460) :
    Body.row (grid0.coords t) w (ix2 0 n) = w (ix2 ⟨t.val, lt_of_lt_of_eq t.isLt N_0⟩ n) := by
  have h0 : ∀ t : Fin cfg0.N, k0_off1 (grid0.coords t) 0 = t.val := by decide +kernel
  have h1 : ∀ t : Fin cfg0.N, k0_off1 (grid0.coords t) 1 = 0 := by decide +kernel
  unfold Body.row View.ld
  refine congrArg w ?_
  funext a
  fin_cases a
  · refine Fin.ext ?_
    show k0_off1 (grid0.coords t) 0 + 1 * 0 = t.val
    rw [h0]
    omega
  · refine Fin.ext ?_
    show k0_off1 (grid0.coords t) 1 + 1 * n.val = n.val
    rw [h1]
    omega

omit hs hq hl in
/-- A class's number equals a label's exactly when the class's word is the label. -/
theorem class_iff (cl : Fin 21) (l : BitVec 32) :
    (((cl.val : ℝ) : EReal) = ((l.toInt : ℝ) : EReal)) ↔ l = BitVec.ofNat 32 cl.val := by
  have hcl := cl.isLt
  rw [EReal.coe_eq_coe_iff]
  have hc : (BitVec.ofNat 32 cl.val).toInt = cl.val := by
    rw [BitVec.toInt_eq_toNat_of_lt] <;> rw [BitVec.toNat_ofNat, Nat.mod_eq_of_lt (by omega)]
    omega
  constructor
  · intro h
    refine BitVec.eq_of_toInt_eq ?_
    rw [hc]
    exact_mod_cast h.symm
  · rintro rfl
    rw [hc, Int.cast_natCast]

/-- The classification loss of one score is the reference's. -/
theorem losses_eq (t : Fin cfg0.N) (cl : Fin 21) (n : Fin 5460) :
    Steps.losses m c t (ix2 cl n) = Spec.focal (Ref.score W ⟨t.val, lt_of_lt_of_eq t.isLt N_0⟩ n cl)
      (Ref.hot W ⟨t.val, lt_of_lt_of_eq t.isLt N_0⟩ n cl) := by
  unfold Steps.losses
  rw [Conf.pay119_apply, row_apply, labels_eq hs hq hl, score_eq hs]
  unfold Ref.hot
  by_cases h : Spec.label (fun o => Ref.Match W ⟨t.val, lt_of_lt_of_eq t.isLt N_0⟩ o n) (Ref.label W ⟨t.val, lt_of_lt_of_eq t.isLt N_0⟩)
      = BitVec.ofNat 32 cl.val
  · rw [if_pos ((class_iff cl _).2 h), if_pos h, Spec.focal_hot]
  · rw [if_neg fun hh => h ((class_iff cl _).1 hh), if_neg h, Spec.focal_cold]

/-- The sum of the steps' classification losses, scaled one by one, is the sum of all, divided by their number. -/
theorem conf_eq : ∑ s ∈ Finset.range 8, Steps.part m c s * ((43680⁻¹ : ℝ) : EReal)
    = Ideal.div (∑ b : Fin 8, ∑ n : Fin 5460, ∑ cl : Fin 21, Spec.focal (Ref.score W b n cl) (Ref.hot W b n cl))
        (Ideal.ofBits FTy.f32 0x472AA000#32) := by
  rw [Spec.sum_mul_real _ _ _ (by norm_num), Spec.div_count, Finset.sum_range]
  refine congrArg (· * ((43680⁻¹ : ℝ) : EReal)) (Finset.sum_congr rfl fun b _ => ?_)
  have e := Steps.part_eq m c ⟨b.val, lt_of_lt_of_eq b.isLt N_0.symm⟩
  rw [show Steps.part m c b.val = _ from e, Finset.sum_comm]
  refine Finset.sum_congr rfl fun n _ => Finset.sum_congr rfl fun cl _ => ?_
  exact losses_eq hs hq hl _ cl n

/-- The kernel's result is the reference's. -/
theorem result : Value.G5 m c = (Cert.ReferenceIdeal.Value.val8 W (Proc.devRef .tc Cert.ReferenceIdeal.main_v381) : Vec Ideal S1x1 .f32) := by
  rw [Value.G5_last, ← Value.outsAt0_sweep m c 7 (lt_of_lt_of_eq (by decide) N_0.symm)]
  funext i
  obtain rfl : i = ix2 0 0 := by
    funext a
    fin_cases a
    · exact Subsingleton.elim (α := Fin 1) _ _
    · exact Subsingleton.elim (α := Fin 1) _ _
  refine (Steps.after_last m c _).trans ?_
  rw [conf_eq hs hq hl, num_eq hs hq, den_eq hs hq]
  exact (Ref.result W).symm

end Cert.Equal

end
-- ==== Proof.PreRead.lean ====
/-
  The precondition, read back: which entries of the arguments are finite, and how large the labels are.
-/
module

public import proofs.«01_k».proof.Pre_in_range
public import proofs.«01_k».proof.Proof.Gen.Pre_in_range
public import Idealize.ShloMosaic.Lib.Pointwise
public import Idealize.ShloMosaic.Lib.ReduceAll

@[expose] public section

set_option maxRecDepth 16384

noncomputable section

open Idealize.ShloMosaic
open Cert.Pre_in_range

namespace Cert.PreRead

/-- The spelled infinity. -/
theorem inf_eq : Ideal.ofBits FTy.f32 0x7F800000#32 = (⊤ : EReal) := by
  simp [Ideal.ofBits, Ideal.ieee]

/-- A number whose absolute value is below infinity is finite. -/
theorem finite_of (x : EReal) (h : BitVec.ofBool (decide (max x (-x) < Ideal.ofBits FTy.f32 0x7F800000#32)) = 1#1) :
    x ≠ ⊤ ∧ x ≠ ⊥ := by
  rw [inf_eq] at h
  have h' : max x (-x) < ⊤ := by
    by_contra hn
    simp [hn] at h
  obtain ⟨h1, h2⟩ := max_lt_iff.1 h'
  exact ⟨h1.ne, fun e => by simp [e] at h2⟩

/-- Under the precondition the priors' centres are finite and the labels lie between 0 and 31. -/
theorem read (a0 : FVec Ideal S8x5460x4 .f32) (a1 : FVec Ideal S8x5460x21 .f32) (a2 : FVec Ideal S8x8x4 .f32)
    (a3 : IVec S8x8 32) (a4 : FVec Ideal S5460x4 .f32) (h : fn (F := Ideal) a0 a1 a2 a3 a4 = fun _ => 1#1) :
    (∀ n, ((a4 (ix2 n 0) : EReal) ≠ ⊤ ∧ (a4 (ix2 n 0) : EReal) ≠ ⊥) ∧ ((a4 (ix2 n 1) : EReal) ≠ ⊤ ∧ (a4 (ix2 n 1) : EReal) ≠ ⊥))
      ∧ (∀ b o, 0 ≤ (a3 (ix2 b o)).toInt) ∧ ∀ b o, (a3 (ix2 b o)).toInt < 32 := by
  have h0 := congrFun h (fun a => a.elim0)
  unfold fn at h0
  dsimp only at h0
  have hand : ∀ p q : BitVec 1, IntOp.andi p q = 1#1 ↔ p = 1#1 ∧ q = 1#1 := by decide
  obtain ⟨h1, h2⟩ := (hand _ _).1 h0
  obtain ⟨h3, h4⟩ := (hand _ _).1 h1
  refine ⟨fun n => ⟨?_, ?_⟩, fun b o => ?_, fun b o => ?_⟩
  · have e := Host.reduce_andi_all _ _ _ _ _ h3 (ix2 n 0)
    pointwise at e
    exact finite_of _ e
  · have e := Host.reduce_andi_all _ _ _ _ _ h3 (ix2 n 1)
    pointwise at e
    exact finite_of _ e
  · have e := Host.reduce_andi_all _ _ _ _ _ h4 (ix2 b o)
    pointwise at e
    simpa using IntOp.cmpi_sge.1 e
  · have e := Host.reduce_andi_all _ _ _ _ _ h2 (ix2 b o)
    pointwise at e
    simpa using IntOp.cmpi_slt.1 e

end Cert.PreRead

end
-- ==== Proof.Agree.lean ====
/-
  The value claim: from arguments that agree and meet the precondition, the kernel and the reference end with the same result.
-/
module

public import proofs.«01_k».proof.Defs
public import proofs.«01_k».proof.Proof.Equal
public import proofs.«01_k».proof.Proof.PreRead

@[expose] public section

set_option maxRecDepth 16384

noncomputable section

open Idealize.ShloMosaic Idealize.ShloMosaic.StableHlo Idealize.ShloMosaic.TcCoe Idealize.SL.Sem

namespace Cert.Agree

/-- A word that is a number from 0 to 31 when read with its sign is one when read without. -/
theorem small_word (l : BitVec 32) (h0 : 0 ≤ l.toInt) (h1 : l.toInt < 32) : l.toNat < 32 := by
  rw [BitVec.toInt_eq_toNat_cond] at h0 h1
  have := l.isLt
  split at h0 <;> omega

/-- The results are equal. -/
theorem value (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal)) (hpre : Cert.Pre_KernelIdeal_in_range m)
    (hs : Equal.Same m c W) :
    Cert.KernelIdeal.Value.G5 m c
      = (Cert.ReferenceIdeal.Value.val8 W (Proc.devRef .tc Cert.ReferenceIdeal.main_v381) : Vec Ideal Cert.KernelIdeal.S1x1 .f32) := by
  obtain ⟨p4, p3, p3'⟩ := PreRead.read _ _ _ _ _ (hpre c)
  refine Equal.result hs (fun n => ?_) fun b o => ?_
  · rw [show Ref.prior W n 0 = _ from congrFun hs.2.2.2.2 (ix2 n 0), show Ref.prior W n 1 = _ from congrFun hs.2.2.2.2 (ix2 n 1)]
    exact p4 n
  · rw [show Ref.label W b o = _ from congrFun hs.2.2.2.1 (ix2 b o)]
    exact small_word _ (p3 b o) (p3' b o)

/-- The idealized kernel and the idealized reference end with the same result. -/
theorem algebraic : Cert.algebraic_KernelIdeal_ReferenceIdeal_pre_in_range := by
  intro m g m' g' hpre hagree
  refine ⟨_, Cert.KernelIdeal.Value.run m g, ?_⟩
  refine (θ_run Cert.ReferenceIdeal.defs _ _).mono (fun r h c => ⟨(h c).1.trans ?_, (h c).2⟩) (Cert.ReferenceIdeal.Value.run (F := Ideal) m' g')
  exact (Cert.ReferenceIdeal.Value.val8_main_v381 (launchContents m' c)).symm.trans (value m c (launchContents m' c) hpre (hagree c)).symm

end Cert.Agree

end
-- ==== Proof.lean ====
/-
  The proof of the whole claim: the frames, the named constant, and the equality of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_in_range
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_in_range.Gen.facts,
  Frames.kernel, Frames.kernelIdeal, Frames.kernelIdeal_in_range, Frames.referenceIdeal, Frames.referenceIdeal_in_range,
  Frames.preserves, Agree.algebraic⟩

end Cert.Proof

end
